-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_gain [hPre_finite_gain : Cert.Pre_finite_gain.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_gain.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_gain [hPre_finite_gain : Cert.Pre_finite_gain.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_gain.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_gain [hKernel11Ideal : Cert.Kernel11Ideal.Facts] [hPre_finite_gain : Cert.Pre_finite_gain.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_gain m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_gain [hReference11Ideal : Cert.Reference11Ideal.Facts] [hPre_finite_gain : Cert.Pre_finite_gain.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_gain m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v28) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite_gain [hKernel11Ideal : Cert.Kernel11Ideal.Facts] [hReference11Ideal : Cert.Reference11Ideal.Facts] [hPre_finite_gain : Cert.Pre_finite_gain.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_gain m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts) (hPre_finite_gain : Cert.Pre_finite_gain.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_gain (hKernel11Ideal := hKernel11Ideal) (hPre_finite_gain := hPre_finite_gain)
    ∧ quiescent_Reference11Ideal (hReference11Ideal := hReference11Ideal)
    ∧ quiescent_Reference11Ideal_pre_finite_gain (hReference11Ideal := hReference11Ideal) (hPre_finite_gain := hPre_finite_gain)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_gain (hKernel11Ideal := hKernel11Ideal) (hReference11Ideal := hReference11Ideal) (hPre_finite_gain := hPre_finite_gain)
-- ==== Pre_finite_gain.lean ====
abbrev S32768x2048 : Shape := ⟨2, ![32768, 2048]⟩
abbrev S2048 : Shape := ⟨1, ![2048]⟩
abbrev S2048x128 : Shape := ⟨2, ![2048, 128]⟩
abbrev S1x128 : Shape := ⟨2, ![1, 128]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S32768x2048 .f32) (main_arg1 : FVec F S2048 .f32) (main_arg2 : FVec F S2048x128 .bf16) (main_arg3 : FVec F S1x128 .f32) : IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  main_v3
-- ==== Pre_finite_scores.lean ====
abbrev S32768x2048 : Shape := ⟨2, ![32768, 2048]⟩
abbrev S32768x3072 : Shape := ⟨2, ![32768, 3072]⟩
abbrev S8x16x1x4096 : Shape := ⟨4, ![8, 16, 1, 4096]⟩
abbrev S32768x1536 : Shape := ⟨2, ![32768, 1536]⟩
abbrev S_ : Shape := ⟨0, ![]⟩
abbrev S8x12x1x4096 : Shape := ⟨4, ![8, 12, 1, 4096]⟩
abbrev S8x12x4096 : Shape := ⟨3, ![8, 12, 4096]⟩

class Facts : Prop where
  slices_S32768x2048_S32768x1536_0_0 : S32768x2048.Slices ![0, 0] S32768x1536
  bcast_S_S32768x1536 : S_.BroadcastsInDim S32768x1536 (![] : Fin 0 → Fin S32768x1536.rank)
  reducesTo_S32768x1536_S_d0_1 : S32768x1536.ReducesTo [0, 1] S_
  h_S_ : 0 < S_.numel
  slices_S32768x3072_S32768x1536_0_0 : S32768x3072.Slices ![0, 0] S32768x1536
  bitsLt_bf16_f32 : FTy.bits .bf16 < FTy.bits .f32
  slices_S8x16x1x4096_S8x12x1x4096_0_0_0_0 : S8x16x1x4096.Slices ![0, 0, 0, 0] S8x12x1x4096
  shapeCasts_S8x12x1x4096_S8x12x4096 : S8x12x1x4096.ShapeCasts S8x12x4096
  bcast_S_S8x12x4096 : S_.BroadcastsInDim S8x12x4096 (![] : Fin 0 → Fin S8x12x4096.rank)
  reducesTo_S8x12x4096_S_d0_1_2 : S8x12x4096.ReducesTo [0, 1, 2] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S32768x2048 .f32) (main_arg1 : FVec F S32768x3072 .bf16) (main_arg2 : FVec F S8x16x1x4096 .f32) : IVec S_ 1 :=
  let main_v0 : FVec F S32768x1536 .f32 := (extractStridedSlice S32768x1536 ![0, 0] · slices_S32768x2048_S32768x1536_0_0) main_arg0
  let main_v1 : FVec F S32768x1536 .f32 := Host.absf main_v0
  let main_cst : FVec F S_ .f32 := constant S_ .f32 0x7F800000#32
  let main_v2 : FVec F S32768x1536 .f32 := broadcastInDim S32768x1536 ![] bcast_S_S32768x1536 main_cst
  let main_v3 : IVec S32768x1536 1 := cmpf .olt main_v1 main_v2
  let main_c : IVec S_ 1 := constantI S_ 1 1#1
  let main_v4 : IVec S_ 1 := (fun x v => Host.reduce IntOp.andi x v reducesTo_S32768x1536_S_d0_1 h_S_) main_v3 main_c
  let main_v5 : FVec F S32768x1536 .bf16 := (extractStridedSlice S32768x1536 ![0, 0] · slices_S32768x3072_S32768x1536_0_0) main_arg1
  let main_v6 : FVec F S32768x1536 .f32 := (extf .f32 · bitsLt_bf16_f32) main_v5
  let main_v7 : FVec F S32768x1536 .f32 := Host.absf main_v6
  let main_cst_0 : FVec F S_ .f32 := constant S_ .f32 0x7F800000#32
  let main_v8 : FVec F S32768x1536 .f32 := broadcastInDim S32768x1536 ![] bcast_S_S32768x1536 main_cst_0
  let main_v9 : IVec S32768x1536 1 := cmpf .olt main_v7 main_v8
  let main_c_1 : IVec S_ 1 := constantI S_ 1 1#1
  let main_v10 : IVec S_ 1 := (fun x v => Host.reduce IntOp.andi x v reducesTo_S32768x1536_S_d0_1 h_S_) main_v9 main_c_1
  let main_v11 : IVec S_ 1 := andi main_v4 main_v10
  let main_v12 : FVec F S8x12x1x4096 .f32 := (extractStridedSlice S8x12x1x4096 ![0, 0, 0, 0] · slices_S8x16x1x4096_S8x12x1x4096_0_0_0_0) main_arg2
  let main_v13 : FVec F S8x12x4096 .f32 := shapeCast S8x12x4096 main_v12 shapeCasts_S8x12x1x4096_S8x12x4096
  let main_v14 : FVec F S8x12x4096 .f32 := Host.absf main_v13
  let main_cst_2 : FVec F S_ .f32 := constant S_ .f32 0x7F800000#32
  let main_v15 : FVec F S8x12x4096 .f32 := broadcastInDim S8x12x4096 ![] bcast_S_S8x12x4096 main_cst_2
  let main_v16 : IVec S8x12x4096 1 := cmpf .olt main_v14 main_v15
  let main_c_3 : IVec S_ 1 := constantI S_ 1 1#1
  let main_v17 : IVec S_ 1 := (fun x v => Host.reduce IntOp.andi x v reducesTo_S8x12x4096_S_d0_1_2 h_S_) main_v16 main_c_3
  fn_part1 (F := F) main_v11 main_v17
-- ==== Kernel.lean ====
abbrev S32768x2048 : Shape := ⟨2, ![32768, 2048]⟩
abbrev S32768x3072 : Shape := ⟨2, ![32768, 3072]⟩
abbrev S8x16x1x4096 : Shape := ⟨4, ![8, 16, 1, 4096]⟩
abbrev S32768x1536 : Shape := ⟨2, ![32768, 1536]⟩
abbrev S512x128 : Shape := ⟨2, ![512, 128]⟩
abbrev S4096x128 : Shape := ⟨2, ![4096, 128]⟩
abbrev S1x1x1x4096 : Shape := ⟨4, ![1, 1, 1, 4096]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 4
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x3072, .bf16⟩
  | .hbm, ⟨2, _⟩ => ⟨S8x16x1x4096, .f32⟩
  | .hbm, ⟨3, _⟩ => ⟨S32768x1536, .bf16⟩
  | .local _ .vmem, ⟨0, _⟩ => ⟨S512x128, .f32⟩
  | .local _ .vmem, ⟨1, _⟩ => ⟨S512x128, .f32⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x1x1x4096, .f32⟩
  | .local _ .vmem, ⟨7, _⟩ => ⟨S1x1x1x4096, .f32⟩
  | .local _ .vmem, ⟨8, _⟩ => ⟨S512x128, .bf16⟩
  | .local _ .vmem, ⟨9, _⟩ => ⟨S512x128, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 12, 8], ![false, false, false]⟩

@[reducible] def k0_t1_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  ⟨c0_i32, v11, c1_i32_4⟩
def k0_mult1 (i : grid0.Coords) (k0_t1 : Fin (k0_t1_loop i).trips) : BitVec 32 :=
  let c0_i32 : BitVec 32 := 0#32
  let c1_i32_4 : BitVec 32 := 1#32
  let arg8 : BitVec 32 := Scf.iv c0_i32 c1_i32_4 k0_t1
  let c512_i32_18 : BitVec 32 := 512#32
  let v52 : BitVec 32 := Scalar.muli arg8 c512_i32_18
  v52
def k0_off1 (i : grid0.Coords) (k0_t1 : Fin (k0_t1_loop i).trips) : Fin 2 → Nat :=
  let c0_i32 : BitVec 32 := 0#32
  let c1_i32_4 : BitVec 32 := 1#32
  let arg8 : BitVec 32 := Scf.iv c0_i32 c1_i32_4 k0_t1
  let c512_i32_18 : BitVec 32 := 512#32
  let v52 : BitVec 32 := Scalar.muli arg8 c512_i32_18
  let v53 : BitVec 32 := v52
  let v54 : Index := Scalar.indexCast v53
  let c0_19 : Index := 0#32
  ![v54.toNat, 0]
def k0_off2 (i : grid0.Coords) (k0_t1 : Fin (k0_t1_loop i).trips) : Fin 4 → Nat :=
  let c0_21 : Index := 0#32
  let c0_22 : Index := 0#32
  let c0_23 : Index := 0#32
  let c0_i32 : BitVec 32 := 0#32
  let c1_i32_4 : BitVec 32 := 1#32
  let arg8 : BitVec 32 := Scf.iv c0_i32 c1_i32_4 k0_t1
  let c512_i32_18 : BitVec 32 := 512#32
  let v52 : BitVec 32 := Scalar.muli arg8 c512_i32_18
  let v53 : BitVec 32 := v52
  let v57 : Index := Scalar.indexCast v53
  ![0, 0, 0, v57.toNat]
@[reducible] def k0_t2_loop (i : grid0.Coords) : Scf.Loop 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_5 : BitVec 32 := 1#32
  ⟨v11, v8, c1_i32_5⟩
def k0_mult2 (i : grid0.Coords) (k0_t2 : Fin (k0_t2_loop i).trips) : BitVec 32 :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg8 : BitVec 32 := Scf.iv v11 c1_i32_5 k0_t2
  let c512_i32_18 : BitVec 32 := 512#32
  let v52 : BitVec 32 := Scalar.muli arg8 c512_i32_18
  v52
def k0_off3 (i : grid0.Coords) (k0_t2 : Fin (k0_t2_loop i).trips) : Fin 2 → Nat :=
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg8 : BitVec 32 := Scf.iv v11 c1_i32_5 k0_t2
  let c512_i32_18 : BitVec 32 := 512#32
  let v52 : BitVec 32 := Scalar.muli arg8 c512_i32_18
  let v53 : BitVec 32 := v52
  let v54 : Index := Scalar.indexCast v53
  let c0_19 : Index := 0#32
  ![v54.toNat, 0]
def k0_off4 (i : grid0.Coords) (k0_t2 : Fin (k0_t2_loop i).trips) : Fin 4 → Nat :=
  let c0_21 : Index := 0#32
  let c0_22 : Index := 0#32
  let c0_23 : Index := 0#32
  let c0_i32 : BitVec 32 := 0#32
  let arg2 : BitVec 32 := BitVec.ofNat 32 (i 2).val
  let v7 : BitVec 32 := Scalar.subi arg2 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_5 : BitVec 32 := 1#32
  let arg8 : BitVec 32 := Scf.iv v11 c1_i32_5 k0_t2
  let c512_i32_18 : BitVec 32 := 512#32
  let v52 : BitVec 32 := Scalar.muli arg8 c512_i32_18
  let v53 : BitVec 32 := v52
  let v57 : Index := Scalar.indexCast v53
  ![0, 0, 0, v57.toNat]
def k0_mult3 (i : grid0.Coords) : BitVec 32 :=
  let arg2 : BitVec 32 := BitVec.ofNat 32 (i 2).val
  let c512_i32 : BitVec 32 := 512#32
  let v14 : BitVec 32 := Scalar.muli arg2 c512_i32
  v14
def k0_off5 (i : grid0.Coords) : Fin 2 → Nat :=
  let arg2 : BitVec 32 := BitVec.ofNat 32 (i 2).val
  let c512_i32 : BitVec 32 := 512#32
  let v14 : BitVec 32 := Scalar.muli arg2 c512_i32
  let v15 : BitVec 32 := v14
  let v16 : Index := Scalar.indexCast v15
  let c0_6 : Index := 0#32
  ![v16.toNat, 0]
def k0_off6 (i : grid0.Coords) : Fin 4 → Nat :=
  let c0_8 : Index := 0#32
  let c0_9 : Index := 0#32
  let c0_10 : Index := 0#32
  let arg2 : BitVec 32 := BitVec.ofNat 32 (i 2).val
  let c512_i32 : BitVec 32 := 512#32
  let v14 : BitVec 32 := Scalar.muli arg2 c512_i32
  let v15 : BitVec 32 := v14
  let v19 : Index := Scalar.indexCast v15
  ![0, 0, 0, v19.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S32768x2048 : Shape := ⟨2, ![32768, 2048]⟩
abbrev S32768x3072 : Shape := ⟨2, ![32768, 3072]⟩
abbrev S8x16x1x4096 : Shape := ⟨4, ![8, 16, 1, 4096]⟩
abbrev S32768x1536 : Shape := ⟨2, ![32768, 1536]⟩
abbrev S8x4096x12x128 : Shape := ⟨4, ![8, 4096, 12, 128]⟩
abbrev S8x12x4096x128 : Shape := ⟨4, ![8, 12, 4096, 128]⟩
abbrev S8x12x1x4096 : Shape := ⟨4, ![8, 12, 1, 4096]⟩
abbrev S8x12x4096 : Shape := ⟨3, ![8, 12, 4096]⟩
abbrev S8x12x4096x4096 : Shape := ⟨4, ![8, 12, 4096, 4096]⟩
abbrev S_ : Shape := ⟨0, ![]⟩
abbrev S8x12x4096x1 : Shape := ⟨4, ![8, 12, 4096, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x3072, .bf16⟩
  | .hbm, ⟨2, _⟩ => ⟨S8x16x1x4096, .f32⟩
  | .hbm, ⟨3, _⟩ => ⟨S32768x1536, .f32⟩
  | .hbm, ⟨4, _⟩ => ⟨S8x4096x12x128, .f32⟩
  | .hbm, ⟨5, _⟩ => ⟨S8x12x4096x128, .f32⟩
  | .hbm, ⟨6, _⟩ => ⟨S32768x1536, .bf16⟩
  | .hbm, ⟨7, _⟩ => ⟨S32768x1536, .f32⟩
  | .hbm, ⟨8, _⟩ => ⟨S8x4096x12x128, .f32⟩
  | .hbm, ⟨9, _⟩ => ⟨S8x12x4096x128, .f32⟩
  | .hbm, ⟨10, _⟩ => ⟨S32768x1536, .bf16⟩
  | .hbm, ⟨11, _⟩ => ⟨S32768x1536, .f32⟩
  | .hbm, ⟨12, _⟩ => ⟨S8x4096x12x128, .f32⟩
  | .hbm, ⟨13, _⟩ => ⟨S8x12x4096x128, .f32⟩
  | .hbm, ⟨14, _⟩ => ⟨S8x12x1x4096, .f32⟩
  | .hbm, ⟨15, _⟩ => ⟨S8x12x4096, .f32⟩
  | .hbm, ⟨16, _⟩ => ⟨S8x12x4096x4096, .f32⟩
  | .hbm, ⟨17, _⟩ => ⟨S_, .f32⟩
  | .hbm, ⟨18, _⟩ => ⟨S8x12x4096x4096, .f32⟩
  | .hbm, ⟨19, _⟩ => ⟨S8x12x4096x4096, .f32⟩
  | .hbm, ⟨20, _⟩ => ⟨S8x12x4096x1, .f32⟩
  | .hbm, ⟨21, _⟩ => ⟨S8x12x4096x4096, .f32⟩
  | .hbm, ⟨22, _⟩ => ⟨S8x12x4096x4096, .f32⟩
  | .hbm, ⟨23, _⟩ => ⟨S8x12x1x4096, .f32⟩
  | .hbm, ⟨24, _⟩ => ⟨S8x12x4096x4096, .f32⟩
  | .hbm, ⟨25, _⟩ => ⟨S8x12x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S8x12x4096x4096, .i1⟩
  | .hbm, ⟨35, _⟩ => ⟨S8x12x4096x4096, .f32⟩
  | .hbm, ⟨36, _⟩ => ⟨S8x12x4096x4096, .f32⟩
  | .hbm, ⟨37, _⟩ => ⟨S_, .f32⟩
  | .hbm, ⟨38, _⟩ => ⟨S8x12x4096, .f32⟩
  | .hbm, ⟨39, _⟩ => ⟨S_, .f32⟩
  | .hbm, ⟨40, _⟩ => ⟨S8x12x4096, .f32⟩
  | .hbm, ⟨41, _⟩ => ⟨S8x12x4096, .f32⟩
  | .hbm, ⟨42, _⟩ => ⟨S8x12x4096x1, .f32⟩
  | .hbm, ⟨43, _⟩ => ⟨S8x12x4096x4096, .f32⟩
  | .hbm, ⟨44, _⟩ => ⟨S8x12x4096x4096, .f32⟩
  | .hbm, ⟨45, _⟩ => ⟨S8x12x4096x4096, .f32⟩
  | .hbm, ⟨46, _⟩ => ⟨S_, .f32⟩
  | .hbm, ⟨47, _⟩ => ⟨S8x12x4096, .f32⟩
  | .hbm, ⟨48, _⟩ => ⟨S8x12x4096x1, .f32⟩
  | .hbm, ⟨49, _⟩ => ⟨S8x12x4096x4096, .f32⟩
  | .hbm, ⟨50, _⟩ => ⟨S8x12x4096x4096, .f32⟩
  | .hbm, ⟨51, _⟩ => ⟨S8x12x4096x128, .f32⟩
  | .hbm, ⟨52, _⟩ => ⟨S8x4096x12x128, .f32⟩
  | .hbm, ⟨53, _⟩ => ⟨S32768x1536, .f32⟩
  | .hbm, ⟨54, _⟩ => ⟨S32768x1536, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel2.lean ====
abbrev S32768x2048 : Shape := ⟨2, ![32768, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x2048 : Shape := ⟨2, ![1, 2048]⟩
abbrev S1x11264 : Shape := ⟨2, ![1, 11264]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S528x2048 : Shape := ⟨2, ![528, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x512 : Shape := ⟨2, ![528, 512]⟩
abbrev S512x512 : Shape := ⟨2, ![512, 512]⟩

abbrev nBuf : Space → Nat
  | .hbm => 12
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S1x11264, .f32⟩
  | .hbm, ⟨9, _⟩ => ⟨S1x11264, .f32⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S528x2048, .bf16⟩
  | .local _ .vmem, ⟨23, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v57 : BitVec 1 := Scalar.cmpi .eq arg1 c10_i32
  let v58 : BitVec 32 := Scalar.extui v57
  let c0_i32_24 : BitVec 32 := 0#32
  let v59 : BitVec 1 := Scalar.cmpi .ne v58 c0_i32_24
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S32768x2048 : Shape := ⟨2, ![32768, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩

abbrev nBuf : Space → Nat
  | .hbm => 84
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S8x4096x2048, .f32⟩
  | .hbm, ⟨8, _⟩ => ⟨S8x4096x2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S1x1x2048, .f32⟩
  | .hbm, ⟨22, _⟩ => ⟨S8x4096x2048, .f32⟩
  | .hbm, ⟨23, _⟩ => ⟨S8x4096x2048, .f32⟩
  | .hbm, ⟨24, _⟩ => ⟨S2048x11264, .f32⟩
  | .hbm, ⟨25, _⟩ => ⟨S8x4096x11264, .f32⟩
  | .hbm, ⟨26, _⟩ => ⟨S_, .i32⟩
  | .hbm, ⟨27, _⟩ => ⟨S_, .f32⟩
  | .hbm, ⟨28, _⟩ => ⟨S8x4098x11264, .f32⟩
  | .hbm, ⟨29, _⟩ => ⟨S1x11264, .f32⟩
  | .hbm, ⟨30, _⟩ => ⟨S11264, .f32⟩
  | .hbm, ⟨31, _⟩ => ⟨S8x4096x11264, .f32⟩
  | .hbm, ⟨32, _⟩ => ⟨S1x1x11264, .f32⟩
  | .hbm, ⟨33, _⟩ => ⟨S8x4096x11264, .f32⟩
  | .hbm, ⟨34, _⟩ => ⟨S8x4096x11264, .f32⟩
  | .hbm, ⟨35, _⟩ => ⟨S1x11264, .f32⟩
  | .hbm, ⟨36, _⟩ => ⟨S11264, .f32⟩
  | .hbm, ⟨37, _⟩ => ⟨S8x4096x11264, .f32⟩
  | .hbm, ⟨38, _⟩ => ⟨S1x1x11264, .f32⟩
  | .hbm, ⟨39, _⟩ => ⟨S8x4096x11264, .f32⟩
  | .hbm, ⟨40, _⟩ => ⟨S8x4096x11264, .f32⟩
  | .hbm, ⟨41, _⟩ => ⟨S8x4096x11264, .f32⟩
  | .hbm, ⟨42, _⟩ => ⟨S1x11264, .f32⟩
  | .hbm, ⟨43, _⟩ => ⟨S11264, .f32⟩
  | .hbm, ⟨44, _⟩ => ⟨S8x4096x11264, .f32⟩
  | .hbm, ⟨45, _⟩ => ⟨S1x1x11264, .f32⟩
  | .hbm, ⟨46, _⟩ => ⟨S8x4096x11264, .f32⟩
  | .hbm, ⟨47, _⟩ => ⟨S8x4096x11264, .f32⟩
  | .hbm, ⟨48, _⟩ => ⟨S8x4096x11264, .f32⟩
  | .hbm, ⟨49, _⟩ => ⟨S1x1x11264, .f32⟩
  | .hbm, ⟨50, _⟩ => ⟨S8x4096x11264, .f32⟩
  | .hbm, ⟨51, _⟩ => ⟨S8x4096x11264, .f32⟩
  | .hbm, ⟨52, _⟩ => ⟨S8x4096x5632, .f32⟩
  | .hbm, ⟨53, _⟩ => ⟨S8x4096x5632, .f32⟩
  | .hbm, ⟨54, _⟩ => ⟨S8x4096x5632, .f32⟩
  | .hbm, ⟨55, _⟩ => ⟨S8x4096x5632, .f32⟩
  | .hbm, ⟨56, _⟩ => ⟨S_, .f32⟩
  | .hbm, ⟨57, _⟩ => ⟨S8x4096x5632, .f32⟩
  | .hbm, ⟨58, _⟩ => ⟨S8x4096x5632, .f32⟩
  | .hbm, ⟨59, _⟩ => ⟨S_, .f32⟩
  | .hbm, ⟨60, _⟩ => ⟨S8x4096x5632, .f32⟩
  | .hbm, ⟨61, _⟩ => ⟨S8x4096x5632, .f32⟩
  | .hbm, ⟨62, _⟩ => ⟨S8x4096x5632, .f32⟩
  | .hbm, ⟨63, _⟩ => ⟨S8x4096x5632, .f32⟩
  | .hbm, ⟨64, _⟩ => ⟨S5632x2048, .f32⟩
  | .hbm, ⟨65, _⟩ => ⟨S8x4096x2048, .f32⟩
  | .hbm, ⟨66, _⟩ => ⟨S8x4096x2048, .f32⟩
  | .hbm, ⟨67, _⟩ => ⟨S8x4096x2048, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x4096x1, .f32⟩
  | .hbm, ⟨78, _⟩ => ⟨S8x4096x2048, .f32⟩
  | .hbm, ⟨79, _⟩ => ⟨S8x4096x2048, .f32⟩
  | .hbm, ⟨80, _⟩ => ⟨S1x1x2048, .f32⟩
  | .hbm, ⟨81, _⟩ => ⟨S8x4096x2048, .f32⟩
  | .hbm, ⟨82, _⟩ => ⟨S8x4096x2048, .f32⟩
  | .hbm, ⟨83, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_2 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel3.lean ====
abbrev S32768x1536 : Shape := ⟨2, ![32768, 1536]⟩
abbrev S32768x512 : Shape := ⟨2, ![32768, 512]⟩
abbrev S1536x2048 : Shape := ⟨2, ![1536, 2048]⟩
abbrev S512x2048 : Shape := ⟨2, ![512, 2048]⟩
abbrev S32768x2048 : Shape := ⟨2, ![32768, 2048]⟩
abbrev S1024x1536 : Shape := ⟨2, ![1024, 1536]⟩
abbrev S1024x512 : Shape := ⟨2, ![1024, 512]⟩
abbrev S1536x1024 : Shape := ⟨2, ![1536, 1024]⟩
abbrev S512x1024 : Shape := ⟨2, ![512, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S32768x1536, .bf16⟩
  | .hbm, ⟨1, _⟩ => ⟨S32768x512, .bf16⟩
  | .hbm, ⟨2, _⟩ => ⟨S1536x2048, .bf16⟩
  | .hbm, ⟨3, _⟩ => ⟨S512x2048, .bf16⟩
  | .hbm, ⟨4, _⟩ => ⟨S32768x2048, .f32⟩
  | .hbm, ⟨5, _⟩ => ⟨S32768x2048, .f32⟩
  | .local _ .vmem, ⟨0, _⟩ => ⟨S1024x1536, .bf16⟩
  | .local _ .vmem, ⟨1, _⟩ => ⟨S1024x1536, .bf16⟩
  | .local _ .vmem, ⟨2, _⟩ => ⟨S1024x512, .bf16⟩
  | .local _ .vmem, ⟨3, _⟩ => ⟨S1024x512, .bf16⟩
  | .local _ .vmem, ⟨4, _⟩ => ⟨S1536x1024, .bf16⟩
  | .local _ .vmem, ⟨5, _⟩ => ⟨S1536x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S32768x1536 : Shape := ⟨2, ![32768, 1536]⟩
abbrev S32768x512 : Shape := ⟨2, ![32768, 512]⟩
abbrev S1536x2048 : Shape := ⟨2, ![1536, 2048]⟩
abbrev S512x2048 : Shape := ⟨2, ![512, 2048]⟩
abbrev S32768x2048 : Shape := ⟨2, ![32768, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x512, .bf16⟩
  | .hbm, ⟨2, _⟩ => ⟨S1536x2048, .bf16⟩
  | .hbm, ⟨3, _⟩ => ⟨S512x2048, .bf16⟩
  | .hbm, ⟨4, _⟩ => ⟨S32768x2048, .f32⟩
  | .hbm, ⟨5, _⟩ => ⟨S32768x2048, .bf16⟩
  | .hbm, ⟨6, _⟩ => ⟨S32768x2048, .f32⟩
  | .hbm, ⟨7, _⟩ => ⟨S2048x2048, .bf16⟩
  | .hbm, ⟨8, _⟩ => ⟨S2048x2048, .f32⟩
  | .hbm, ⟨9, _⟩ => ⟨S32768x2048, .f32⟩
  | .hbm, ⟨10, _⟩ => ⟨S32768x2048, .f32⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S32768x2048 : Shape := ⟨2, ![32768, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S1x2048 : Shape := ⟨2, ![1, 2048]⟩
abbrev S1x11264 : Shape := ⟨2, ![1, 11264]⟩
abbrev S512x2048 : Shape := ⟨2, ![512, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S528x2048 : Shape := ⟨2, ![528, 2048]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x512 : Shape := ⟨2, ![528, 512]⟩
abbrev S512x512 : Shape := ⟨2, ![512, 512]⟩

abbrev nBuf : Space → Nat
  | .hbm => 12
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S1x2048, .f32⟩
  | .hbm, ⟨8, _⟩ => ⟨S1x11264, .f32⟩
  | .hbm, ⟨9, _⟩ => ⟨S1x11264, .f32⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S528x2048, .bf16⟩
  | .local _ .vmem, ⟨23, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v57 : BitVec 1 := Scalar.cmpi .eq arg1 c10_i32
  let v58 : BitVec 32 := Scalar.extui v57
  let c0_i32_24 : BitVec 32 := 0#32
  let v59 : BitVec 1 := Scalar.cmpi .ne v58 c0_i32_24
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S32768x2048 : Shape := ⟨2, ![32768, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S5632x2048 : Shape := ⟨2, ![5632, 2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x4098x11264 : Shape := ⟨3, ![8, 4098, 11264]⟩
abbrev S1x11264 : Shape := ⟨2, ![1, 11264]⟩
abbrev S1x1x11264 : Shape := ⟨3, ![1, 1, 11264]⟩
abbrev S8x4096x5632 : Shape := ⟨3, ![8, 4096, 5632]⟩

abbrev nBuf : Space → Nat
  | .hbm => 68
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .bf16⟩
  | .hbm, ⟨3, _⟩ => ⟨S3x11264, .f32⟩
  | .hbm, ⟨4, _⟩ => ⟨S11264, .f32⟩
  | .hbm, ⟨5, _⟩ => ⟨S5632x2048, .bf16⟩
  | .hbm, ⟨6, _⟩ => ⟨S2048, .f32⟩
  | .hbm, ⟨7, _⟩ => ⟨S8x4096x2048, .f32⟩
  | .hbm, ⟨8, _⟩ => ⟨S8x4096x2048, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x2048, .f32⟩
  | .hbm, ⟨20, _⟩ => ⟨S8x4096x2048, .f32⟩
  | .hbm, ⟨21, _⟩ => ⟨S1x1x2048, .f32⟩
  | .hbm, ⟨22, _⟩ => ⟨S8x4096x2048, .f32⟩
  | .hbm, ⟨23, _⟩ => ⟨S8x4096x2048, .f32⟩
  | .hbm, ⟨24, _⟩ => ⟨S2048x11264, .f32⟩
  | .hbm, ⟨25, _⟩ => ⟨S8x4096x11264, .f32⟩
  | .hbm, ⟨26, _⟩ => ⟨S_, .i32⟩
  | .hbm, ⟨27, _⟩ => ⟨S_, .f32⟩
  | .hbm, ⟨28, _⟩ => ⟨S8x4098x11264, .f32⟩
  | .hbm, ⟨29, _⟩ => ⟨S1x11264, .f32⟩
  | .hbm, ⟨30, _⟩ => ⟨S11264, .f32⟩
  | .hbm, ⟨31, _⟩ => ⟨S8x4096x11264, .f32⟩
  | .hbm, ⟨32, _⟩ => ⟨S1x1x11264, .f32⟩
  | .hbm, ⟨33, _⟩ => ⟨S8x4096x11264, .f32⟩
  | .hbm, ⟨34, _⟩ => ⟨S8x4096x11264, .f32⟩
  | .hbm, ⟨35, _⟩ => ⟨S1x11264, .f32⟩
  | .hbm, ⟨36, _⟩ => ⟨S11264, .f32⟩
  | .hbm, ⟨37, _⟩ => ⟨S8x4096x11264, .f32⟩
  | .hbm, ⟨38, _⟩ => ⟨S1x1x11264, .f32⟩
  | .hbm, ⟨39, _⟩ => ⟨S8x4096x11264, .f32⟩
  | .hbm, ⟨40, _⟩ => ⟨S8x4096x11264, .f32⟩
  | .hbm, ⟨41, _⟩ => ⟨S8x4096x11264, .f32⟩
  | .hbm, ⟨42, _⟩ => ⟨S1x11264, .f32⟩
  | .hbm, ⟨43, _⟩ => ⟨S11264, .f32⟩
  | .hbm, ⟨44, _⟩ => ⟨S8x4096x11264, .f32⟩
  | .hbm, ⟨45, _⟩ => ⟨S1x1x11264, .f32⟩
  | .hbm, ⟨46, _⟩ => ⟨S8x4096x11264, .f32⟩
  | .hbm, ⟨47, _⟩ => ⟨S8x4096x11264, .f32⟩
  | .hbm, ⟨48, _⟩ => ⟨S8x4096x11264, .f32⟩
  | .hbm, ⟨49, _⟩ => ⟨S1x1x11264, .f32⟩
  | .hbm, ⟨50, _⟩ => ⟨S8x4096x11264, .f32⟩
  | .hbm, ⟨51, _⟩ => ⟨S8x4096x11264, .f32⟩
  | .hbm, ⟨52, _⟩ => ⟨S8x4096x5632, .f32⟩
  | .hbm, ⟨53, _⟩ => ⟨S8x4096x5632, .f32⟩
  | .hbm, ⟨54, _⟩ => ⟨S8x4096x5632, .f32⟩
  | .hbm, ⟨55, _⟩ => ⟨S8x4096x5632, .f32⟩
  | .hbm, ⟨56, _⟩ => ⟨S_, .f32⟩
  | .hbm, ⟨57, _⟩ => ⟨S8x4096x5632, .f32⟩
  | .hbm, ⟨58, _⟩ => ⟨S8x4096x5632, .f32⟩
  | .hbm, ⟨59, _⟩ => ⟨S_, .f32⟩
  | .hbm, ⟨60, _⟩ => ⟨S8x4096x5632, .f32⟩
  | .hbm, ⟨61, _⟩ => ⟨S8x4096x5632, .f32⟩
  | .hbm, ⟨62, _⟩ => ⟨S8x4096x5632, .f32⟩
  | .hbm, ⟨63, _⟩ => ⟨S8x4096x5632, .f32⟩
  | .hbm, ⟨64, _⟩ => ⟨S5632x2048, .f32⟩
  | .hbm, ⟨65, _⟩ => ⟨S8x4096x2048, .f32⟩
  | .hbm, ⟨66, _⟩ => ⟨S8x4096x2048, .f32⟩
  | .hbm, ⟨67, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel5.lean ====
abbrev S32768x2048 : Shape := ⟨2, ![32768, 2048]⟩
abbrev S2048 : Shape := ⟨1, ![2048]⟩
abbrev S2048x5760 : Shape := ⟨2, ![2048, 5760]⟩
abbrev S1x2048 : Shape := ⟨2, ![1, 2048]⟩
abbrev S32768x5760 : Shape := ⟨2, ![32768, 5760]⟩
abbrev S1024x2048 : Shape := ⟨2, ![1024, 2048]⟩
abbrev S2048x1152 : Shape := ⟨2, ![2048, 1152]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5760, .bf16⟩
  | .hbm, ⟨3, _⟩ => ⟨S1x2048, .f32⟩
  | .hbm, ⟨4, _⟩ => ⟨S32768x5760, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1152, .bf16⟩
  | .local _ .vmem, ⟨4, _⟩ => ⟨S2048x1152, .bf16⟩
  | .local _ .vmem, ⟨5, _⟩ => ⟨S1024x1152, .f32⟩
  | .local _ .vmem, ⟨6, _⟩ => ⟨S1024x1152, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S32768x2048 : Shape := ⟨2, ![32768, 2048]⟩
abbrev S2048 : Shape := ⟨1, ![2048]⟩
abbrev S2048x5760 : Shape := ⟨2, ![2048, 5760]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5760 : Shape := ⟨2, ![32768, 5760]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5760, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x5760, .f32⟩
  | .hbm, ⟨20, _⟩ => ⟨S32768x5760, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x2048, .bf16⟩
  | .hbm, ⟨3, _⟩ => ⟨S1x2048, .f32⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S32768x2048 : Shape := ⟨2, ![32768, 2048]⟩
abbrev S2048 : Shape := ⟨1, ![2048]⟩
abbrev S2048x2048 : Shape := ⟨2, ![2048, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x2048, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x2048, .f32⟩
  | .hbm, ⟨20, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel7.lean ====
abbrev S32768x2048 : Shape := ⟨2, ![32768, 2048]⟩
abbrev S2048 : Shape := ⟨1, ![2048]⟩
abbrev S2048x3072 : Shape := ⟨2, ![2048, 3072]⟩
abbrev S1x2048 : Shape := ⟨2, ![1, 2048]⟩
abbrev S32768x3072 : Shape := ⟨2, ![32768, 3072]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x3072, .bf16⟩
  | .hbm, ⟨3, _⟩ => ⟨S1x2048, .f32⟩
  | .hbm, ⟨4, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S32768x2048 : Shape := ⟨2, ![32768, 2048]⟩
abbrev S2048 : Shape := ⟨1, ![2048]⟩
abbrev S2048x3072 : Shape := ⟨2, ![2048, 3072]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x3072 : Shape := ⟨2, ![32768, 3072]⟩

abbrev nBuf : Space → Nat
  | .hbm => 22
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x3072, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x3072, .f32⟩
  | .hbm, ⟨20, _⟩ => ⟨S32768x3072, .f32⟩
  | .hbm, ⟨21, _⟩ => ⟨S32768x3072, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S32768x2048 : Shape := ⟨2, ![32768, 2048]⟩
abbrev S2048x4096 : Shape := ⟨2, ![2048, 4096]⟩
abbrev S32768x512 : Shape := ⟨2, ![32768, 512]⟩
abbrev S1024x512 : Shape := ⟨2, ![1024, 512]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048x4096, .bf16⟩
  | .hbm, ⟨2, _⟩ => ⟨S32768x512, .bf16⟩
  | .local _ .vmem, ⟨0, _⟩ => ⟨S1024x512, .f32⟩
  | .local _ .vmem, ⟨1, _⟩ => ⟨S1024x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S32768x2048 : Shape := ⟨2, ![32768, 2048]⟩
abbrev S2048x4096 : Shape := ⟨2, ![2048, 4096]⟩
abbrev S32768x512 : Shape := ⟨2, ![32768, 512]⟩
abbrev S8x4096x4x128 : Shape := ⟨4, ![8, 4096, 4, 128]⟩
abbrev S8x4x4096x128 : Shape := ⟨4, ![8, 4, 4096, 128]⟩
abbrev S2048x512 : Shape := ⟨2, ![2048, 512]⟩
abbrev S8x256x4x128 : Shape := ⟨4, ![8, 256, 4, 128]⟩
abbrev S8x4x256x128 : Shape := ⟨4, ![8, 4, 256, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x4096, .bf16⟩
  | .hbm, ⟨2, _⟩ => ⟨S32768x512, .f32⟩
  | .hbm, ⟨3, _⟩ => ⟨S8x4096x4x128, .f32⟩
  | .hbm, ⟨4, _⟩ => ⟨S8x4x4096x128, .f32⟩
  | .hbm, ⟨5, _⟩ => ⟨S2048x512, .bf16⟩
  | .hbm, ⟨6, _⟩ => ⟨S2048x512, .f32⟩
  | .hbm, ⟨7, _⟩ => ⟨S8x256x4x128, .f32⟩
  | .hbm, ⟨8, _⟩ => ⟨S8x4x256x128, .f32⟩
  | .hbm, ⟨9, _⟩ => ⟨S2048x512, .bf16⟩
  | .hbm, ⟨10, _⟩ => ⟨S2048x512, .f32⟩
  | .hbm, ⟨11, _⟩ => ⟨S8x256x4x128, .f32⟩
  | .hbm, ⟨12, _⟩ => ⟨S8x4x256x128, .f32⟩
  | .hbm, ⟨13, _⟩ => ⟨S8x4x4096x256, .f32⟩
  | .hbm, ⟨14, _⟩ => ⟨S_, .f32⟩
  | .hbm, ⟨15, _⟩ => ⟨S8x4x4096x256, .f32⟩
  | .hbm, ⟨16, _⟩ => ⟨S8x4x4096x256, .f32⟩
  | .hbm, ⟨17, _⟩ => ⟨S_, .f32⟩
  | .hbm, ⟨18, _⟩ => ⟨S8x4x4096, .f32⟩
  | .hbm, ⟨19, _⟩ => ⟨S_, .f32⟩
  | .hbm, ⟨20, _⟩ => ⟨S8x4x4096, .f32⟩
  | .hbm, ⟨21, _⟩ => ⟨S8x4x4096, .f32⟩
  | .hbm, ⟨22, _⟩ => ⟨S8x4x4096x1, .f32⟩
  | .hbm, ⟨23, _⟩ => ⟨S8x4x4096x256, .f32⟩
  | .hbm, ⟨24, _⟩ => ⟨S8x4x4096x256, .f32⟩
  | .hbm, ⟨25, _⟩ => ⟨S8x4x4096x256, .f32⟩
  | .hbm, ⟨26, _⟩ => ⟨S_, .f32⟩
  | .hbm, ⟨27, _⟩ => ⟨S8x4x4096, .f32⟩
  | .hbm, ⟨28, _⟩ => ⟨S8x4x4096x1, .f32⟩
  | .hbm, ⟨29, _⟩ => ⟨S8x4x4096x256, .f32⟩
  | .hbm, ⟨30, _⟩ => ⟨S8x4x4096x256, .f32⟩
  | .hbm, ⟨31, _⟩ => ⟨S8x4x4096x128, .f32⟩
  | .hbm, ⟨32, _⟩ => ⟨S8x4096x4x128, .f32⟩
  | .hbm, ⟨33, _⟩ => ⟨S32768x512, .f32⟩
  | .hbm, ⟨34, _⟩ => ⟨S32768x512, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel9.lean ====
abbrev S2048x2048 : Shape := ⟨2, ![2048, 2048]⟩
abbrev S2048 : Shape := ⟨1, ![2048]⟩
abbrev S2048x4096 : Shape := ⟨2, ![2048, 4096]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x4096, .bf16⟩
  | .hbm, ⟨3, _⟩ => ⟨S1x2048, .f32⟩
  | .hbm, ⟨4, _⟩ => ⟨S2048x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S2048x2048 : Shape := ⟨2, ![2048, 2048]⟩
abbrev S2048 : Shape := ⟨1, ![2048]⟩
abbrev S2048x4096 : Shape := ⟨2, ![2048, 4096]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x4096, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel10.lean ====
abbrev S32768x5760 : Shape := ⟨2, ![32768, 5760]⟩
abbrev S2048x4096 : Shape := ⟨2, ![2048, 4096]⟩
abbrev S32768x512 : Shape := ⟨2, ![32768, 512]⟩
abbrev S1024x512 : Shape := ⟨2, ![1024, 512]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S32768x5760, .f32⟩
  | .hbm, ⟨1, _⟩ => ⟨S2048x4096, .bf16⟩
  | .hbm, ⟨2, _⟩ => ⟨S32768x512, .bf16⟩
  | .local _ .vmem, ⟨0, _⟩ => ⟨S1024x512, .f32⟩
  | .local _ .vmem, ⟨1, _⟩ => ⟨S1024x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x512, .bf16⟩
  | .local _ .vmem, ⟨7, _⟩ => ⟨S1024x512, .bf16⟩
  | _, _ => ⟨S32768x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c10_i32 : BitVec 32 := 10#32
  let c0_i32 : BitVec 32 := 0#32
  ![v1.toNat, c10_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S32768x5760 : Shape := ⟨2, ![32768, 5760]⟩
abbrev S2048x4096 : Shape := ⟨2, ![2048, 4096]⟩
abbrev S32768x512 : Shape := ⟨2, ![32768, 512]⟩
abbrev S8x4096x4x128 : Shape := ⟨4, ![8, 4096, 4, 128]⟩
abbrev S8x4x4096x128 : Shape := ⟨4, ![8, 4, 4096, 128]⟩
abbrev S2048x512 : Shape := ⟨2, ![2048, 512]⟩
abbrev S8x256x4x128 : Shape := ⟨4, ![8, 256, 4, 128]⟩
abbrev S8x4x256x128 : Shape := ⟨4, ![8, 4, 256, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S32768x5760, .f32⟩
  | .hbm, ⟨1, _⟩ => ⟨S2048x4096, .bf16⟩
  | .hbm, ⟨2, _⟩ => ⟨S32768x512, .f32⟩
  | .hbm, ⟨3, _⟩ => ⟨S8x4096x4x128, .f32⟩
  | .hbm, ⟨4, _⟩ => ⟨S8x4x4096x128, .f32⟩
  | .hbm, ⟨5, _⟩ => ⟨S2048x512, .bf16⟩
  | .hbm, ⟨6, _⟩ => ⟨S2048x512, .f32⟩
  | .hbm, ⟨7, _⟩ => ⟨S8x256x4x128, .f32⟩
  | .hbm, ⟨8, _⟩ => ⟨S8x4x256x128, .f32⟩
  | .hbm, ⟨9, _⟩ => ⟨S2048x512, .bf16⟩
  | .hbm, ⟨10, _⟩ => ⟨S2048x512, .f32⟩
  | .hbm, ⟨11, _⟩ => ⟨S8x256x4x128, .f32⟩
  | .hbm, ⟨12, _⟩ => ⟨S8x4x256x128, .f32⟩
  | .hbm, ⟨13, _⟩ => ⟨S8x4x4096x256, .f32⟩
  | .hbm, ⟨14, _⟩ => ⟨S_, .f32⟩
  | .hbm, ⟨15, _⟩ => ⟨S8x4x4096x256, .f32⟩
  | .hbm, ⟨16, _⟩ => ⟨S8x4x4096x256, .f32⟩
  | .hbm, ⟨17, _⟩ => ⟨S_, .f32⟩
  | .hbm, ⟨18, _⟩ => ⟨S8x4x4096, .f32⟩
  | .hbm, ⟨19, _⟩ => ⟨S_, .f32⟩
  | .hbm, ⟨20, _⟩ => ⟨S8x4x4096, .f32⟩
  | .hbm, ⟨21, _⟩ => ⟨S8x4x4096, .f32⟩
  | .hbm, ⟨22, _⟩ => ⟨S8x4x4096x1, .f32⟩
  | .hbm, ⟨23, _⟩ => ⟨S8x4x4096x256, .f32⟩
  | .hbm, ⟨24, _⟩ => ⟨S8x4x4096x256, .f32⟩
  | .hbm, ⟨25, _⟩ => ⟨S8x4x4096x256, .f32⟩
  | .hbm, ⟨26, _⟩ => ⟨S_, .f32⟩
  | .hbm, ⟨27, _⟩ => ⟨S8x4x4096, .f32⟩
  | .hbm, ⟨28, _⟩ => ⟨S8x4x4096x1, .f32⟩
  | .hbm, ⟨29, _⟩ => ⟨S8x4x4096x256, .f32⟩
  | .hbm, ⟨30, _⟩ => ⟨S8x4x4096x256, .f32⟩
  | .hbm, ⟨31, _⟩ => ⟨S8x4x4096x128, .f32⟩
  | .hbm, ⟨32, _⟩ => ⟨S8x4096x4x128, .f32⟩
  | .hbm, ⟨33, _⟩ => ⟨S32768x512, .f32⟩
  | .hbm, ⟨34, _⟩ => ⟨S32768x512, .bf16⟩
  | _, _ => ⟨S32768x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel11.lean ====
abbrev S32768x2048 : Shape := ⟨2, ![32768, 2048]⟩
abbrev S2048 : Shape := ⟨1, ![2048]⟩
abbrev S2048x128 : Shape := ⟨2, ![2048, 128]⟩
abbrev S1x128 : Shape := ⟨2, ![1, 128]⟩
abbrev S1x2048 : Shape := ⟨2, ![1, 2048]⟩
abbrev S8x16x4096 : Shape := ⟨3, ![8, 16, 4096]⟩
abbrev S512x2048 : Shape := ⟨2, ![512, 2048]⟩
abbrev S1x16x512 : Shape := ⟨3, ![1, 16, 512]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S128x512 : Shape := ⟨2, ![128, 512]⟩
abbrev S16x512 : Shape := ⟨2, ![16, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x128, .bf16⟩
  | .hbm, ⟨3, _⟩ => ⟨S1x128, .f32⟩
  | .hbm, ⟨4, _⟩ => ⟨S1x2048, .f32⟩
  | .hbm, ⟨5, _⟩ => ⟨S8x16x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S1x16x512, .f32⟩
  | .local _ .vmem, ⟨6, _⟩ => ⟨S1x16x512, .f32⟩
  | .local _ .vmem, ⟨7, _⟩ => ⟨S1x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S32768x2048 : Shape := ⟨2, ![32768, 2048]⟩
abbrev S2048 : Shape := ⟨1, ![2048]⟩
abbrev S2048x128 : Shape := ⟨2, ![2048, 128]⟩
abbrev S1x128 : Shape := ⟨2, ![1, 128]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x128 : Shape := ⟨2, ![32768, 128]⟩
abbrev S32768x16 : Shape := ⟨2, ![32768, 16]⟩
abbrev S8x4096x16 : Shape := ⟨3, ![8, 4096, 16]⟩
abbrev S1x16 : Shape := ⟨2, ![1, 16]⟩
abbrev S16 : Shape := ⟨1, ![16]⟩
abbrev S1x1x16 : Shape := ⟨3, ![1, 1, 16]⟩
abbrev S8x16x4096 : Shape := ⟨3, ![8, 16, 4096]⟩

abbrev nBuf : Space → Nat
  | .hbm => 49
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x128, .bf16⟩
  | .hbm, ⟨3, _⟩ => ⟨S1x128, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x128, .f32⟩
  | .hbm, ⟨21, _⟩ => ⟨S32768x128, .f32⟩
  | .hbm, ⟨22, _⟩ => ⟨S32768x16, .f32⟩
  | .hbm, ⟨23, _⟩ => ⟨S8x4096x16, .f32⟩
  | .hbm, ⟨24, _⟩ => ⟨S1x16, .f32⟩
  | .hbm, ⟨25, _⟩ => ⟨S16, .f32⟩
  | .hbm, ⟨26, _⟩ => ⟨S1x1x16, .f32⟩
  | .hbm, ⟨27, _⟩ => ⟨S8x4096x16, .f32⟩
  | .hbm, ⟨28, _⟩ => ⟨S8x4096x16, .f32⟩
  | .hbm, ⟨29, _⟩ => ⟨S8x4096x16, .f32⟩
  | .hbm, ⟨30, _⟩ => ⟨S_, .f32⟩
  | .hbm, ⟨31, _⟩ => ⟨S8x4096x16, .f32⟩
  | .hbm, ⟨32, _⟩ => ⟨S8x4096x16, .f32⟩
  | .hbm, ⟨33, _⟩ => ⟨S8x4096x16, .f32⟩
  | .hbm, ⟨34, _⟩ => ⟨S8x4096x16, .f32⟩
  | .hbm, ⟨35, _⟩ => ⟨S8x4096x16, .i1⟩
  | .hbm, ⟨36, _⟩ => ⟨S8x4096x16, .f32⟩
  | .hbm, ⟨37, _⟩ => ⟨S8x4096x16, .f32⟩
  | .hbm, ⟨38, _⟩ => ⟨S8x4096x16, .f32⟩
  | .hbm, ⟨39, _⟩ => ⟨S8x4096x16, .f32⟩
  | .hbm, ⟨40, _⟩ => ⟨S8x4096x16, .f32⟩
  | .hbm, ⟨41, _⟩ => ⟨S8x4096x16, .f32⟩
  | .hbm, ⟨42, _⟩ => ⟨S8x4096x16, .f32⟩
  | .hbm, ⟨43, _⟩ => ⟨S8x4096x16, .f32⟩
  | .hbm, ⟨44, _⟩ => ⟨S8x4096x16, .f32⟩
  | .hbm, ⟨45, _⟩ => ⟨S_, .f32⟩
  | .hbm, ⟨46, _⟩ => ⟨S_, .f32⟩
  | .hbm, ⟨47, _⟩ => ⟨S8x4096x16, .f32⟩
  | .hbm, ⟨48, _⟩ => ⟨S8x16x4096, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩
abbrev main_call1_call0_cst : Ref sig .tc := ⟨.hbm, 45, rfl⟩
abbrev main_call1_call0_v0 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]
-- ==== Proof.OutProj.lean ====
/- The output projection with its residual: what the kernel stores block by block is the one product
   over the concatenated inputs plus the residual stream. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Kernel3Ideal.OutProj

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result as a function of the five arguments: `x + [a, b] · [wa; wb]`. -/
def REF (a : FVec Ideal S32768x1536 .bf16) (b : FVec Ideal S32768x512 .bf16) (wa : FVec Ideal S1536x2048 .bf16)
    (wb : FVec Ideal S512x2048 .bf16) (x : FVec Ideal S32768x2048 .f32) : FVec Ideal S32768x2048 .f32 :=
  addf x (Host.dotGeneral Cert.Reference3Ideal.dot_S32768x2048_S2048x2048_S32768x2048_1_0_0_1_n_n none
    (extf .f32 (concatenate Cert.Reference3Ideal.S32768x2048 1
      [⟨Cert.Reference3Ideal.S32768x1536, a⟩, ⟨Cert.Reference3Ideal.S32768x512, b⟩]
      Cert.Reference3Ideal.Gen.concatenates_S32768x1536_S32768x512_S32768x2048_d1) Cert.Reference3Ideal.Gen.bitsLt_bf16_f32)
    (extf .f32 (concatenate Cert.Reference3Ideal.S2048x2048 0
      [⟨Cert.Reference3Ideal.S1536x2048, wa⟩, ⟨Cert.Reference3Ideal.S512x2048, wb⟩]
      Cert.Reference3Ideal.Gen.concatenates_S1536x2048_S512x2048_S2048x2048_d0) Cert.Reference3Ideal.Gen.bitsLt_bf16_f32))

/-- Every window's block index at every grid point. -/
theorem idx : ∀ t : Fin cfg0.N, win0_0.index t = ![t.val / 2, 0] ∧ win0_1.index t = ![t.val / 2, 0]
    ∧ win0_2.index t = ![0, t.val % 2] ∧ win0_3.index t = ![0, t.val % 2] ∧ win0_4.index t = ![t.val / 2, t.val % 2]
    ∧ win0_5.index t = ![t.val / 2, t.val % 2] :=
  (by decide +kernel : ∀ t : Fin grid0.N, _)

/-- What grid point `t` stores at block index `y` is the reference's value at the array index where `y` lies. -/
theorem point (c : Dev nD) (t : Fin cfg0.N) (y) :
    k0_pay1 (iblk m c 4 t) (iblk m c 0 t) (iblk m c 2 t) (iblk m c 1 t) (iblk m c 3 t) y
    = REF (m ((c : Thread nD τ).loc main_arg0)) (m ((c : Thread nD τ).loc main_arg1))
        (m ((c : Thread nD τ).loc main_arg2)) (m ((c : Thread nD τ).loc main_arg3))
        (m ((c : Thread nD τ).loc main_arg4)) (((cfg0.win 5).blk t).view.emb y) := by
  pointwise [k0_pay1, REF]
  rw [add_assoc]
  blk_point [iblk, V, idx t]

/-- The result array after the run is the reference's function of the arguments. -/
theorem final (c : Dev nD) : (dats m 0 c).arrAt 5 (cfgs 0).N
    = REF (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]; frame_out
  exact point m c t y

end Cert.Kernel3Ideal.OutProj

end
-- ==== Proof.Fox.Math.lean ====
/- Softmax attention for one query over real scores, free of either program: the kernel's running maximum,
   running sum and running weighted sum reach the plain weighted mean, and so does the reference's softmax. -/
module

public import Idealize.ShloMosaic.Lib.Pipeline.ValueKit
public import Idealize.ShloMosaic.Lib.Pointwise
public import Idealize.ShloMosaic.Lib.WordCmp

@[expose] public section

set_option maxRecDepth 16384

noncomputable section

namespace Cert.FoxMath

open Idealize.ShloMosaic Idealize.ShloMosaic.TcCoe Idealize.SL.Sem

/-- A real sum, read among the extended reals. -/
theorem coe_sum {ι : Type} (S : Finset ι) (f : ι → ℝ) : ((∑ s ∈ S, f s : ℝ) : EReal) = ∑ s ∈ S, (f s : EReal) := by
  classical
  induction S using Finset.induction_on with
  | empty => simp
  | insert a S ha ih => rw [Finset.sum_insert ha, Finset.sum_insert ha, EReal.coe_add, ih]

/-- A real factor that is not negative goes into any sum of extended reals. -/
theorem coe_mul_sum {ι : Type} (a : ℝ) (ha : 0 ≤ a) (S : Finset ι) (f : ι → EReal) :
    (a : EReal) * ∑ s ∈ S, f s = ∑ s ∈ S, (a : EReal) * f s := by
  classical
  induction S using Finset.induction_on with
  | empty => simp
  | insert x S hx ih =>
    rw [Finset.sum_insert hx, Finset.sum_insert hx,
      EReal.left_distrib_of_nonneg_of_ne_top (EReal.coe_nonneg.mpr ha) (EReal.coe_ne_top a), ih]

/-- The mean of `v` over the first `n` keys, weighted by the exponentials of the scores `σ`. -/
def att (σ : ℕ → ℝ) (v : ℕ → EReal) (n : ℕ) : EReal :=
  ∑ s ∈ Finset.range n, ((Real.exp (σ s) / ∑ u ∈ Finset.range n, Real.exp (σ u) : ℝ) : EReal) * v s

/-- What the kernel holds for one query after `n` keys: some shift `M`, the shifted exponentials' sum `L`
    and their weighted sum `A` of the values; nothing yet when there was no key. -/
def Held (σ : ℕ → ℝ) (v : ℕ → EReal) (n : ℕ) (M L A : EReal) : Prop :=
  (n = 0 ∧ M = ⊥ ∧ L = 0 ∧ A = 0) ∨
  ∃ μ : ℝ, M = (μ : EReal) ∧ L = ((∑ s ∈ Finset.range n, Real.exp (σ s - μ) : ℝ) : EReal) ∧
    A = ∑ s ∈ Finset.range n, ((Real.exp (σ s - μ) : ℝ) : EReal) * v s

theorem held_zero (σ : ℕ → ℝ) (v : ℕ → EReal) : Held σ v 0 ⊥ 0 0 := Or.inl ⟨rfl, rfl, rfl, rfl⟩

/-- A maximum over real numbers and negative infinities with at least one real number is real. -/
theorem fold_max_real {ι : Type} [Fintype ι] (x : ι → EReal) (hx : ∀ k, x k ≠ ⊤) (k₀ : ι) (h₀ : x k₀ ≠ ⊥) :
    ∃ μ : ℝ, Finset.univ.fold max ⊥ x = (μ : EReal) := by
  have h1 : Finset.univ.fold max ⊥ x ≠ ⊤ := by
    have : Finset.univ.fold max ⊥ x < ⊤ := by
      rw [Finset.fold_max_lt]; exact ⟨bot_lt_top, fun k _ => lt_top_iff_ne_top.mpr (hx k)⟩
    exact this.ne
  have h2 : Finset.univ.fold max ⊥ x ≠ ⊥ := by
    have : x k₀ ≤ Finset.univ.fold max ⊥ x := by
      rw [Finset.le_fold_max]; exact Or.inr ⟨k₀, Finset.mem_univ _, le_rfl⟩
    intro h; rw [h] at this; exact h₀ (le_bot_iff.mp this)
  exact ⟨_, (EReal.coe_toReal h1 h2).symm⟩

theorem max_real {M : EReal} {μ : ℝ} (hM : M ≠ ⊤) : ∃ ν : ℝ, max M (μ : EReal) = (ν : EReal) := by
  rcases le_total M (μ : EReal) with h | h
  · exact ⟨μ, max_eq_right h⟩
  · rw [max_eq_left h]
    refine ⟨_, (EReal.coe_toReal hM ?_).symm⟩
    intro e; rw [e] at h; exact EReal.coe_ne_bot μ (le_bot_iff.mp h)

/-- A sum over a block of `N` keys of which only the first `n` count. -/
theorem sum_block {N n : ℕ} (hn : n ≤ N) {M : Type} [AddCommMonoid M] (f : ℕ → M) (g : Fin N → M)
    (hg : ∀ k : Fin N, g k = if k.val < n then f k.val else 0) : ∑ k, g k = ∑ s ∈ Finset.range n, f s := by
  have h1 : ∑ k, g k = ∑ k : Fin N, (fun s => if s < n then f s else 0) k.val := Finset.sum_congr rfl fun k _ => hg k
  rw [h1, Fin.sum_univ_eq_sum_range (fun s => if s < n then f s else 0) N, ← Finset.sum_filter]
  congr 1
  ext s; simp only [Finset.mem_filter, Finset.mem_range]; omega

/-- One block of `N` scores, of which the first `n` count and the rest are masked: the kernel's update adds
    `n` keys. -/
theorem held_step {σ : ℕ → ℝ} {v : ℕ → EReal} {b : ℕ} {M L A : EReal} (h : Held σ v b M L A) {N n : ℕ} (hn : n ≤ N) (h1 : 1 ≤ n)
    (x w : Fin N → EReal) (hx : ∀ k, x k = if k.val < n then ((σ (b + k.val) : ℝ) : EReal) else ⊥)
    (hw : ∀ k, w k = v (b + k.val)) :
    Held σ v (b + n) (max M (Finset.univ.fold max ⊥ x))
      (Ideal.exp (M - max M (Finset.univ.fold max ⊥ x)) * L
        + ∑ k, Ideal.exp (x k - max M (Finset.univ.fold max ⊥ x)))
      (Ideal.exp (M - max M (Finset.univ.fold max ⊥ x)) * A
        + ∑ k, Ideal.exp (x k - max M (Finset.univ.fold max ⊥ x)) * w k) := by
  obtain ⟨μ₁, hμ₁⟩ := fold_max_real x (fun k => by rw [hx]; split <;> simp) ⟨0, by omega⟩
    (by rw [hx, if_pos (show (0 : ℕ) < n by omega)]; exact EReal.coe_ne_bot _)
  have hM : M ≠ ⊤ := by
    rcases h with ⟨_, e, _⟩ | ⟨μ, e, _⟩ <;> rw [e] <;> simp
  obtain ⟨ν, hν⟩ := max_real (μ := μ₁) hM
  rw [hμ₁, hν]
  have hp : ∀ k : Fin N, Ideal.exp (x k - (ν : EReal))
      = if k.val < n then ((Real.exp (σ (b + k.val) - ν) : ℝ) : EReal) else 0 := by
    intro k; rw [hx]; split
    · rw [← EReal.coe_sub, Ideal.exp_coe]
    · simp
  have hS : ∑ k, Ideal.exp (x k - (ν : EReal)) = ((∑ s ∈ Finset.range n, Real.exp (σ (b + s) - ν) : ℝ) : EReal) := by
    rw [coe_sum]; exact sum_block hn (fun s => ((Real.exp (σ (b + s) - ν) : ℝ) : EReal)) _ hp
  have hT : ∑ k, Ideal.exp (x k - (ν : EReal)) * w k
      = ∑ s ∈ Finset.range n, ((Real.exp (σ (b + s) - ν) : ℝ) : EReal) * v (b + s) := by
    refine sum_block hn (fun s => ((Real.exp (σ (b + s) - ν) : ℝ) : EReal) * v (b + s)) _ fun k => ?_
    rw [hp, hw]; split
    · rfl
    · exact zero_mul _
  rw [hS, hT]
  refine Or.inr ⟨ν, rfl, ?_, ?_⟩
  · rw [Finset.sum_range_add]
    rcases h with ⟨rfl, rfl, rfl, rfl⟩ | ⟨μ, rfl, rfl, rfl⟩
    · simp
    · rw [← EReal.coe_sub, Ideal.exp_coe, ← EReal.coe_mul, ← EReal.coe_add, Finset.mul_sum]
      congr 2
      refine Finset.sum_congr rfl fun s _ => ?_
      rw [← Real.exp_add]; congr 1; ring
  · rw [Finset.sum_range_add]
    rcases h with ⟨rfl, rfl, rfl, rfl⟩ | ⟨μ, rfl, rfl, rfl⟩
    · simp
    · rw [← EReal.coe_sub, Ideal.exp_coe, coe_mul_sum _ (Real.exp_pos _).le]
      congr 1
      refine Finset.sum_congr rfl fun s _ => ?_
      rw [← _root_.mul_assoc, ← EReal.coe_mul, ← Real.exp_add]; congr 3; ring

theorem exp_sum_pos (σ : ℕ → ℝ) {n : ℕ} (h1 : 1 ≤ n) : 0 < ∑ u ∈ Finset.range n, Real.exp (σ u) :=
  Finset.sum_pos (fun _ _ => Real.exp_pos _) ⟨0, Finset.mem_range.mpr h1⟩

/-- The quotient the kernel ends with is the weighted mean, whatever the shift. -/
theorem held_att {σ : ℕ → ℝ} {v : ℕ → EReal} {n : ℕ} {M L A : EReal} (h : Held σ v n M L A) (h1 : 1 ≤ n) :
    Ideal.div A L = att σ v n := by
  rcases h with ⟨rfl, _⟩ | ⟨μ, rfl, rfl, rfl⟩
  · omega
  have hpos := exp_sum_pos (fun s => σ s - μ) h1
  rw [Ideal.div_coe hpos.ne', EReal.mul_comm, coe_mul_sum _ (by positivity), att]
  refine Finset.sum_congr rfl fun s _ => ?_
  rw [← _root_.mul_assoc, ← EReal.coe_mul]
  congr 2
  have hp2 := exp_sum_pos σ h1
  have : ∑ s ∈ Finset.range n, Real.exp (σ s - μ) = (∑ s ∈ Finset.range n, Real.exp (σ s)) * Real.exp (-μ) := by
    rw [Finset.sum_mul]; refine Finset.sum_congr rfl fun s _ => ?_
    rw [← Real.exp_add]; rfl
  rw [this, show Real.exp (σ s - μ) = Real.exp (σ s) * Real.exp (-μ) by rw [← Real.exp_add]; rfl]
  have h3 := (Real.exp_pos (-μ)).ne'
  field_simp

/-- The reference's softmax over all `N` keys, those from `n` on masked, with every score moved by the
    same `κ`: the same weighted mean. -/
theorem soft_att {σ : ℕ → ℝ} {v : ℕ → EReal} {N n : ℕ} (hn : n ≤ N) (h1 : 1 ≤ n) (κ : ℝ)
    (x w : Fin N → EReal) (hx : ∀ k, x k = if k.val < n then ((σ k.val + κ : ℝ) : EReal) else ⊥)
    (hw : ∀ k, w k = v k.val) :
    ∑ k, Ideal.div (Ideal.exp (x k - Finset.univ.fold max ⊥ x)) (∑ u, Ideal.exp (x u - Finset.univ.fold max ⊥ x)) * w k
      = att σ v n := by
  obtain ⟨ν, hν⟩ := fold_max_real x (fun k => by rw [hx]; split <;> simp [-EReal.coe_add]) ⟨0, by omega⟩
    (by rw [hx, if_pos (show (0 : ℕ) < n by omega)]; exact EReal.coe_ne_bot _)
  rw [hν]
  have hp : ∀ k : Fin N, Ideal.exp (x k - (ν : EReal))
      = if k.val < n then ((Real.exp (σ k.val + κ - ν) : ℝ) : EReal) else 0 := by
    intro k; rw [hx]; split
    · rw [← EReal.coe_sub, Ideal.exp_coe]
    · simp
  have hS : ∑ k, Ideal.exp (x k - (ν : EReal)) = ((∑ s ∈ Finset.range n, Real.exp (σ s + κ - ν) : ℝ) : EReal) := by
    rw [coe_sum]; exact sum_block hn (fun s => ((Real.exp (σ s + κ - ν) : ℝ) : EReal)) _ hp
  have hpos := exp_sum_pos (fun s => σ s + κ - ν) h1
  have hsum : ∑ s ∈ Finset.range n, Real.exp (σ s + κ - ν) = (∑ s ∈ Finset.range n, Real.exp (σ s)) * Real.exp (κ - ν) := by
    rw [Finset.sum_mul]; refine Finset.sum_congr rfl fun s _ => ?_
    rw [← Real.exp_add]; congr 1; ring
  rw [hS]
  refine sum_block hn (fun s => ((Real.exp (σ s) / ∑ u ∈ Finset.range n, Real.exp (σ u) : ℝ) : EReal) * v s) _ fun k => ?_
  rw [Ideal.div_coe hpos.ne', hp, hw]
  split
  · rw [← EReal.coe_mul]
    congr 2
    have hp2 := exp_sum_pos σ h1
    rw [hsum, show Real.exp (σ k.val + κ - ν) = Real.exp (σ k.val) * Real.exp (κ - ν) by rw [← Real.exp_add]; congr 1; ring]
    have h3 := (Real.exp_pos (κ - ν)).ne'
    field_simp
  · rw [zero_mul, zero_mul]

/-- The word of negative infinity. -/
theorem neg_inf : Ideal.ofBits .f32 0xFF800000#32 = ⊥ := by simp [Ideal.ofBits, Ideal.ieee]

/-- A signed comparison of two small numbers, as the choice it makes. -/
theorem select_le {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb]
  by_cases h : a ≤ b
  · simp [h, Scalar.select]
  · simp [h, Scalar.select]

/-- A real number among the extended ones. -/
def IsReal (x : EReal) : Prop := ((x.toReal : ℝ) : EReal) = x

/-- The score of one key in real numbers: query times scale times key, less the key's cumulative gate. -/
def sig (q k : Fin 128 → EReal) (l c : EReal) : ℝ := (∑ d, (q d).toReal * l.toReal * (k d).toReal) - c.toReal

/-- The kernel's score is that real number: it scales the query. -/
theorem kernel_score {q k : Fin 128 → EReal} {l c : EReal} (hq : ∀ d, IsReal (q d)) (hk : ∀ d, IsReal (k d)) (hl : IsReal l) (hc : IsReal c) :
    (∑ d, q d * l * k d) - c = ((sig q k l c : ℝ) : EReal) := by
  rw [sig, EReal.coe_sub, coe_sum, hc]
  congr 1
  refine Finset.sum_congr rfl fun d _ => ?_
  rw [EReal.coe_mul, EReal.coe_mul, hq d, hl, hk d]

/-- The reference's score is that real number plus the query's own cumulative gate: it scales the product. -/
theorem reference_score {q k : Fin 128 → EReal} {l c e : EReal} (hq : ∀ d, IsReal (q d)) (hk : ∀ d, IsReal (k d)) (hl : IsReal l) (hc : IsReal c)
    (he : IsReal e) : (∑ d, q d * k d) * l + e - c = ((sig q k l c + e.toReal : ℝ) : EReal) := by
  have h1 : ∑ d, q d * k d = ((∑ d, (q d).toReal * (k d).toReal : ℝ) : EReal) := by
    rw [coe_sum]
    refine Finset.sum_congr rfl fun d _ => ?_
    rw [EReal.coe_mul, hq d, hk d]
  rw [h1, ← hl, ← he, ← hc, ← EReal.coe_mul, ← EReal.coe_add, ← EReal.coe_sub, sig]
  simp only [EReal.toReal_coe]
  congr 1
  have h2 : (∑ d, (q d).toReal * (k d).toReal) * l.toReal = ∑ d, (q d).toReal * l.toReal * (k d).toReal := by
    rw [Finset.sum_mul]; refine Finset.sum_congr rfl fun d _ => ?_; ring
  rw [h2]; ring

/-- The row of key `s` in the sequence of row `R`. -/
def key (R : Fin 32768) (s : ℕ) : Fin 32768 := ⟨4096 * (R.val / 4096) + s % 4096, by omega⟩

/-- Column `d` of head `h`. -/
def hcol {n : ℕ} (hn : 1536 ≤ n) (h : Fin 12) (d : Fin 128) : Fin n := ⟨128 * h.val + d.val, by omega⟩

/-- The scale, as its word says. -/
abbrev scale : EReal := Ideal.ofBits .f32 0x3DB504F3#32

theorem scale_real : IsReal scale := by
  simp only [IsReal, scale, Ideal.ofBits, Ideal.ieee]
  simp [← EReal.coe_mul]

/-- The score of key `s` for the query of row `R` in head `h`. -/
def sigma (Q : Fin 32768 → Fin 2048 → EReal) (KV : Fin 32768 → Fin 3072 → EReal) (C : Fin 8 → Fin 12 → Fin 4096 → EReal)
    (R : Fin 32768) (h : Fin 12) (s : ℕ) : ℝ :=
  sig (fun d => Q R (hcol (by omega) h d)) (fun d => KV (key R s) (hcol (by omega) h d)) scale
    (C ⟨R.val / 4096, by omega⟩ h ⟨s % 4096, by omega⟩)

/-- The values of key `s`, in output column `l`. -/
def vals (KV : Fin 32768 → Fin 3072 → EReal) (R : Fin 32768) (l : Fin 1536) (s : ℕ) : EReal :=
  KV (key R s) ⟨1536 + l.val, by omega⟩

/-- The layer: each query's weighted mean of the values up to its own row. -/
def fox (Q : Fin 32768 → Fin 2048 → EReal) (KV : Fin 32768 → Fin 3072 → EReal) (C : Fin 8 → Fin 12 → Fin 4096 → EReal)
    (R : Fin 32768) (l : Fin 1536) : EReal :=
  att (sigma Q KV C R ⟨l.val / 128, by omega⟩) (vals KV R l) (R.val % 4096 + 1)

/-- What the precondition says: the queries, keys and cumulative gates of the twelve heads are real. -/
structure Real3 (Q : Fin 32768 → Fin 2048 → EReal) (KV : Fin 32768 → Fin 3072 → EReal) (C : Fin 8 → Fin 12 → Fin 4096 → EReal) : Prop where
  q : ∀ R h d, IsReal (Q R (hcol (by omega) h d))
  k : ∀ R h d, IsReal (KV R (hcol (by omega) h d))
  c : ∀ b h s, IsReal (C b h s)

end Cert.FoxMath
end
-- ==== Proof.Fox.Pure.lean ====
/- The attention kernel's stored and carried values at one index, in plain functions of row and column. -/
module

public import proofs.«01_k».proof.Proof.Fox.Math
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen
open Idealize.ShloMosaic Idealize.ShloMosaic.TcCoe Idealize.SL.Sem
open Cert.FoxMath

/-- The score of key `k` of a block at query row `r`: the scaled query times the key, less the key's cumulative gate. -/
def scr (q : Vec Ideal S512x128 .f32) (K : Vec Ideal S512x128 .bf16) (C : Vec Ideal S1x1x1x512 .f32) (r k : Fin 512) : EReal :=
  (∑ d : Fin 128, q (ix2 r d) * Ideal.ofBits .f32 0x3DB504F3#32 * K (ix2 k d)) - C (ix4 0 0 0 k)

theorem pay3 (y : S512x1.Idx) : k0_pay3 (F := Ideal) y = ⊥ := by
  pointwise [k0_pay3]; try exact neg_inf

theorem pay4 (y : S512x1.Idx) : k0_pay4 (F := Ideal) y = 0 := by pointwise [k0_pay4]

theorem pay5 (y : S512x128.Idx) : k0_pay5 (F := Ideal) y = 0 := by pointwise [k0_pay5]

theorem pay6 (q : Vec Ideal S512x128 .f32) (K : Vec Ideal S512x128 .bf16) (C : Vec Ideal S1x1x1x512 .f32) (r k : Fin 512) :
    k0_pay6 (F := Ideal) q K C (ix2 r k) = scr q K C r k := by
  pointwise [k0_pay6, k0_pay2, scr]

theorem pay7 (q : Vec Ideal S512x128 .f32) (M : FVec Ideal S512x1 .f32) (K : Vec Ideal S512x128 .bf16) (C : Vec Ideal S1x1x1x512 .f32) (r : Fin 512) (o : Fin 1) :
    k0_pay7 (F := Ideal) q M K C (ix2 r o) = max (M (ix2 r 0)) (Finset.univ.fold max ⊥ fun k => scr q K C r k) := by
  obtain rfl : o = 0 := Subsingleton.elim _ _
  pointwise [k0_pay7, pay6]
  simp only [pay6, neg_inf]

theorem pay10 (q : Vec Ideal S512x128 .f32) (M L : FVec Ideal S512x1 .f32) (K : Vec Ideal S512x128 .bf16) (C : Vec Ideal S1x1x1x512 .f32) (r : Fin 512) (o : Fin 1) :
    k0_pay10 (F := Ideal) q M L K C (ix2 r o) =
      Ideal.exp (M (ix2 r 0) - max (M (ix2 r 0)) (Finset.univ.fold max ⊥ fun k => scr q K C r k)) * L (ix2 r 0)
      + ∑ k, Ideal.exp (scr q K C r k - max (M (ix2 r 0)) (Finset.univ.fold max ⊥ fun k => scr q K C r k)) := by
  obtain rfl : o = 0 := Subsingleton.elim _ _
  pointwise [k0_pay10, k0_pay8, k0_pay9]
  simp only [pay6, pay7]

theorem pay11 (q : Vec Ideal S512x128 .f32) (M : FVec Ideal S512x1 .f32) (A : FVec Ideal S512x128 .f32) (K V : Vec Ideal S512x128 .bf16) (C : Vec Ideal S1x1x1x512 .f32) (r : Fin 512) (d : Fin 128) :
    k0_pay11 (F := Ideal) q M A K C V (ix2 r d) =
      Ideal.exp (M (ix2 r 0) - max (M (ix2 r 0)) (Finset.univ.fold max ⊥ fun k => scr q K C r k)) * A (ix2 r d)
      + ∑ k, Ideal.exp (scr q K C r k - max (M (ix2 r 0)) (Finset.univ.fold max ⊥ fun k => scr q K C r k)) * V (ix2 k d) := by
  pointwise [k0_pay11, k0_pay8, k0_pay9]
  simp only [pay6, pay7]

/-- The diagonal block's scores: those of later keys are negative infinity. -/
def dscr (q : Vec Ideal S512x128 .f32) (K : Vec Ideal S512x128 .bf16) (C : Vec Ideal S1x1x1x512 .f32) (r k : Fin 512) : EReal :=
  if k.val ≤ r.val then scr q K C r k else ⊥

theorem pay18 (q : Vec Ideal S512x128 .f32) (K : Vec Ideal S512x128 .bf16) (C : Vec Ideal S1x1x1x512 .f32) (r k : Fin 512) :
    k0_pay18 (F := Ideal) q K C (ix2 r k) = dscr q K C r k := by
  pointwise [k0_pay18, k0_pay2, dscr, scr]
  rw [select_le (by omega) (by omega), neg_inf]

theorem pay19 (q : Vec Ideal S512x128 .f32) (M : FVec Ideal S512x1 .f32) (K : Vec Ideal S512x128 .bf16) (C : Vec Ideal S1x1x1x512 .f32) (r : Fin 512) (o : Fin 1) :
    k0_pay19 (F := Ideal) q M K C (ix2 r o) = max (M (ix2 r 0)) (Finset.univ.fold max ⊥ fun k => dscr q K C r k) := by
  obtain rfl : o = 0 := Subsingleton.elim _ _
  pointwise [k0_pay19, pay18]
  simp only [pay18, neg_inf]

/-- The stored output: the last block's update, then the quotient. -/
theorem pay1 (q : Vec Ideal S512x128 .f32) (M L : FVec Ideal S512x1 .f32) (A : FVec Ideal S512x128 .f32) (K V : Vec Ideal S512x128 .bf16) (C : Vec Ideal S1x1x1x512 .f32) (r : Fin 512) (d : Fin 128) :
    k0_pay1 (F := Ideal) A (k0_pay20 q M K C) (k0_pay21 q M K C) (k0_pay22 q M L K C) V (ix2 r d) = Ideal.div
      (Ideal.exp (M (ix2 r 0) - max (M (ix2 r 0)) (Finset.univ.fold max ⊥ fun k => dscr q K C r k)) * A (ix2 r d)
      + ∑ k, Ideal.exp (dscr q K C r k - max (M (ix2 r 0)) (Finset.univ.fold max ⊥ fun k => dscr q K C r k)) * V (ix2 k d))
      (Ideal.exp (M (ix2 r 0) - max (M (ix2 r 0)) (Finset.univ.fold max ⊥ fun k => dscr q K C r k)) * L (ix2 r 0)
      + ∑ k, Ideal.exp (dscr q K C r k - max (M (ix2 r 0)) (Finset.univ.fold max ⊥ fun k => dscr q K C r k))) := by
  pointwise [k0_pay1, k0_pay20, k0_pay21, k0_pay22]
  simp only [pay18, pay19]

end Cert.KernelIdeal.Fox
end
-- ==== Proof.Fox.Run.lean ====
/- The attention kernel's blocks of its arguments, and what its loop over the earlier key blocks carries. -/
module

public import proofs.«01_k».proof.Proof.Fox.Pure
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Cert.FoxMath

variable (m : (ℓ : Loc nD τ sig) → Buf (Elt Ideal) ℓ)

/-- The queries' rows. -/
def argQ (c : Dev nD) (R : Fin 32768) (k : Fin 2048) : EReal := m ((c : Thread nD τ).loc main_arg0) (ix2 R k)
/-- The keys' and values' rows. -/
def argKV (c : Dev nD) (R : Fin 32768) (k : Fin 3072) : EReal := m ((c : Thread nD τ).loc main_arg1) (ix2 R k)
/-- The cumulative gates. -/
def argC (c : Dev nD) (b : Fin 8) (h : Fin 12) (s : Fin 4096) : EReal := m ((c : Thread nD τ).loc main_arg2) (ix4 b ⟨h.val, by omega⟩ 0 s)

/-- Every window's block index at every grid point. -/
theorem idx : ∀ t : Fin cfg0.N, win0_0.index t = ![t.val / 96 * 8 + t.val % 8, t.val / 8 % 12] ∧ win0_1.index t = ![t.val / 96, t.val / 8 % 12]
    ∧ win0_2.index t = ![t.val / 96, 12 + t.val / 8 % 12] ∧ win0_3.index t = ![t.val / 96, t.val / 8 % 12, 0, 0]
    ∧ win0_4.index t = ![t.val / 96 * 8 + t.val % 8, t.val / 8 % 12] :=
  (by decide +kernel : ∀ t : Fin grid0.N, _)

theorem lt768 (t : Fin cfg0.N) : t.val < 768 := t.isLt

/-- The batch entry and the head of a grid point, and the row of its tile's row `r`. -/
def bat (t : Fin cfg0.N) : Fin 8 := ⟨t.val / 96, by have := lt768 t; omega⟩
def hd (t : Fin cfg0.N) : Fin 12 := ⟨t.val / 8 % 12, by omega⟩
def row (t : Fin cfg0.N) (r : Fin 512) : Fin 32768 := ⟨(t.val / 96 * 8 + t.val % 8) * 512 + r.val, by have := lt768 t; omega⟩

theorem b0 (c : Dev nD) (t : Fin cfg0.N) (r : Fin 512) (d : Fin 128) :
    iblk m c 0 t (ix2 r d) = argQ m c (row t r) (hcol (by omega) (hd t) d) := by
  unfold argQ row hcol hd
  blk_point [iblk, V, idx t]
theorem b1 (c : Dev nD) (t : Fin cfg0.N) (r : Fin 512) (s : Fin 4096) (d : Fin 128) :
    iblk m c 1 t (ix2 s d) = argKV m c (key (row t r) s.val) (hcol (by omega) (hd t) d) := by
  unfold argKV row hcol hd key
  blk_point [iblk, V, idx t]
theorem b2 (c : Dev nD) (t : Fin cfg0.N) (r : Fin 512) (s : Fin 4096) (d : Fin 128) :
    iblk m c 2 t (ix2 s d) = vals (argKV m c) (row t r) (hcol (by omega) (hd t) d) s.val := by
  unfold vals argKV row hcol hd key
  blk_point [iblk, V, idx t]
theorem b3 (c : Dev nD) (t : Fin cfg0.N) (s : Fin 4096) :
    iblk m c 3 t (ix4 0 0 0 s) = argC m c (bat t) (hd t) s := by
  unfold argC bat hd
  blk_point [iblk, V, idx t]

/-- The grid's third coordinate is the query tile's number, and the loop has one trip for each earlier tile. -/
theorem trips1 : ∀ t : Fin cfg0.N, (k0_t1_loop (grid0.coords t)).trips = t.val % 8 := (by decide +kernel : ∀ t : Fin grid0.N, _)
/-- The second loop, from the first one's end to the same bound, has no trip. -/
theorem trips2 : ∀ t : Fin cfg0.N, (k0_t2_loop (grid0.coords t)).trips = 0 := (by decide +kernel : ∀ t : Fin grid0.N, _)
/-- Where the blocks start: the loop's trip reads its own block of keys, the last part the diagonal one. -/
theorem off1 : ∀ (t : Fin cfg0.N) (k : Fin (k0_t1_loop (grid0.coords t)).trips), k0_off1 (grid0.coords t) k = ![512 * k.val, 0] :=
  (by decide +kernel : ∀ (t : Fin grid0.N) (k : Fin (k0_t1_loop (grid0.coords t)).trips), _)
theorem off2 : ∀ (t : Fin cfg0.N) (k : Fin (k0_t1_loop (grid0.coords t)).trips), k0_off2 (grid0.coords t) k = ![0, 0, 0, 512 * k.val] :=
  (by decide +kernel : ∀ (t : Fin grid0.N) (k : Fin (k0_t1_loop (grid0.coords t)).trips), _)
theorem off5 : ∀ t : Fin cfg0.N, k0_off5 (grid0.coords t) = ![512 * (t.val % 8), 0] := (by decide +kernel : ∀ t : Fin grid0.N, _)
theorem off6 : ∀ t : Fin cfg0.N, k0_off6 (grid0.coords t) = ![0, 0, 0, 512 * (t.val % 8)] := (by decide +kernel : ∀ t : Fin grid0.N, _)

/-- A block of rows read from the whole. -/
theorem ldK (X : Vec Ideal S4096x128 .bf16) (off : Fin 2 → ℕ) (h) (n : ℕ) (ho : off = ![n, 0]) (k : Fin 512) (d : Fin 128) (hn : n + k.val < 4096) :
    View.ld X (Rect.unit off ![512, 128] h) (ix2 k d) = X (ix2 ⟨n + k.val, hn⟩ d) := by
  subst ho
  pointwise
/-- A block of the gates read from the whole. -/
theorem ldC (X : Vec Ideal S1x1x1x4096 .f32) (off : Fin 4 → ℕ) (h) (n : ℕ) (ho : off = ![0, 0, 0, n]) (k : Fin 512) (hn : n + k.val < 4096) :
    View.ld X (Rect.unit off ![1, 1, 1, 512] h) (ix4 0 0 0 k) = X (ix4 0 0 0 ⟨n + k.val, hn⟩) := by
  subst ho
  pointwise

section Loop
variable (𝒱 : Variants) (c : Dev nD) (bd : Option 𝒱.V) (i : grid0.Coords) (arg3 : Memref sig .tc .vmem S512x128 .f32) (harg3 : arg3.IsWhole)
  (arg4 : Memref sig .tc .vmem S4096x128 .bf16) (harg4 : arg4.IsWhole) (arg5 : Memref sig .tc .vmem S4096x128 .bf16) (harg5 : arg5.IsWhole)
  (arg6 : Memref sig .tc .vmem S1x1x1x4096 .f32) (harg6 : arg6.IsWhole) (arg7 : Memref sig .tc .vmem S512x128 .bf16) (harg7 : arg7.IsWhole)
  (q : Vec Ideal S512x128 .f32) (K W : Vec Ideal S4096x128 .bf16) (C : Vec Ideal S1x1x1x4096 .f32)

/-- One trip: the update by the block of keys it reads. -/
theorem trip_eq (k : Fin (k0_t1_loop i).trips) (acc : FVec Ideal S512x1 .f32 × FVec Ideal S512x1 .f32 × FVec Ideal S512x128 .f32) :
    tripR_k0_t1 (F := Ideal) 𝒱 c bd i arg3 harg3 arg4 harg4 arg5 harg5 arg6 harg6 arg7 harg7 q (harg4.unread K) (harg5.unread W) (harg6.unread C) k acc
    = (k0_pay7 q acc.1 (View.ld K (Rect.unit (k0_off1 i k) ![512, 128] (k0_off1_inb i k))) (View.ld C (Rect.unit (k0_off2 i k) ![1, 1, 1, 512] (k0_off2_inb i k))),
       k0_pay10 q acc.1 acc.2.1 (View.ld K (Rect.unit (k0_off1 i k) ![512, 128] (k0_off1_inb i k))) (View.ld C (Rect.unit (k0_off2 i k) ![1, 1, 1, 512] (k0_off2_inb i k))),
       k0_pay11 q acc.1 acc.2.2 (View.ld K (Rect.unit (k0_off1 i k) ![512, 128] (k0_off1_inb i k))) (View.ld C (Rect.unit (k0_off2 i k) ![1, 1, 1, 512] (k0_off2_inb i k)))
        (View.ld W (Rect.unit (k0_off1 i k) ![512, 128] (k0_off1_inb i k)))) := by
  unfold tripR_k0_t1 trip_k0_t1
  dsimp only
  simp only [View.readAt_eq_ld, Memref.IsWhole.read_unread]

/-- Before trip `j` the loop holds, for query row `r` and output column `d`, what the first `512 j` keys give. -/
theorem state (t : Fin cfg0.N) (r : Fin 512) (d : Fin 128) (σ : ℕ → ℝ) (v : ℕ → EReal)
    (hs : ∀ s : Fin 4096, (∑ e : Fin 128, q (ix2 r e) * scale * K (ix2 s e)) - C (ix4 0 0 0 s) = ((σ s.val : ℝ) : EReal))
    (hv : ∀ s : Fin 4096, W (ix2 s d) = v s.val) (j : ℕ) (hj : j ≤ t.val % 8) :
    Held σ v (512 * j)
      ((st_k0_t1 (F := Ideal) 𝒱 c bd (grid0.coords t) arg3 harg3 arg4 harg4 arg5 harg5 arg6 harg6 arg7 harg7 q (harg4.unread K) (harg5.unread W) (harg6.unread C)
        (k0_pay3, k0_pay4, k0_pay5) j).1 (ix2 r 0))
      ((st_k0_t1 (F := Ideal) 𝒱 c bd (grid0.coords t) arg3 harg3 arg4 harg4 arg5 harg5 arg6 harg6 arg7 harg7 q (harg4.unread K) (harg5.unread W) (harg6.unread C)
        (k0_pay3, k0_pay4, k0_pay5) j).2.1 (ix2 r 0))
      ((st_k0_t1 (F := Ideal) 𝒱 c bd (grid0.coords t) arg3 harg3 arg4 harg4 arg5 harg5 arg6 harg6 arg7 harg7 q (harg4.unread K) (harg5.unread W) (harg6.unread C)
        (k0_pay3, k0_pay4, k0_pay5) j).2.2 (ix2 r d)) := by
  induction j with
  | zero =>
    rw [st_k0_t1_zero]
    dsimp only
    rw [pay3, pay4, pay5]
    exact held_zero σ v
  | succ j ih =>
    have hk : j < (k0_t1_loop (grid0.coords t)).trips := by rw [trips1 t]; omega
    rw [st_k0_t1_succ 𝒱 c bd (grid0.coords t) arg3 harg3 arg4 harg4 arg5 harg5 arg6 harg6 arg7 harg7 q (harg4.unread K) (harg5.unread W) (harg6.unread C)
        (k0_pay3, k0_pay4, k0_pay5) ⟨j, hk⟩, trip_eq]
    dsimp only
    rw [pay7, pay10, pay11]
    refine held_step (ih (by omega)) (N := 512) (n := 512) le_rfl (by omega) _ _ (fun k => ?_) (fun k => ?_)
    · rw [if_pos k.isLt, ← hs ⟨512 * j + k.val, by omega⟩, scr, ldC C _ _ _ (off2 t ⟨j, hk⟩) k (by simp only []; omega)]
      simp only [ldK K _ _ _ (off1 t ⟨j, hk⟩) k _ (by simp only []; omega : 512 * (⟨j, hk⟩ : Fin (k0_t1_loop (grid0.coords t)).trips).val + k.val < 4096)]
    · rw [← hv ⟨512 * j + k.val, by omega⟩]
      exact ldK W _ _ _ (off1 t ⟨j, hk⟩) k d _

end Loop

end Cert.KernelIdeal.Fox
end
-- ==== Proof.Fox.Ref.lean ====
/- The reference of the attention, staged, and each stage at one index. -/
module

public import proofs.«01_k».proof.Proof.Fox.Math
public import proofs.«01_k».proof.Proof.Gen.ReferenceIdeal.Run

@[expose] public section

set_option maxRecDepth 16384

noncomputable section

namespace Cert.ReferenceIdeal.Fox

open Cert.ReferenceIdeal Cert.ReferenceIdeal.Gen Cert.ReferenceIdeal.Value
open Idealize.ShloMosaic Idealize.ShloMosaic.TcCoe Idealize.SL.Sem
open Cert.FoxMath

/-- A row's maximum over the last of four axes, at any extents. -/
theorem rowmax {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel)
    (hi : init (Shape.Idx.first hu) = (⊥ : EReal)) (a : Fin n0) (b : Fin n1) (c : Fin n2) :
    Host.reduce FloatOps.maximumf x init h hu (ix3 a b c) = (Finset.univ.fold max (⊥ : EReal) fun k : Fin n3 => x (ix4 a b c k) : EReal) := by
  rw [Host.reduce_eq_fold, h.fold_fiber_r4_a3, hi]
  rfl

/-- The maximum with negative infinity. -/
theorem top_of (y : FVec Ideal S8x12x4096 .f32) (i : S8x12x4096.Idx) :
    maximumf (broadcastInDim S8x12x4096 ![] bcast_S_S8x12x4096 (constant S_ .f32 0xFF800000#32)) y i = y i := by
  show max (Ideal.ofBits .f32 0xFF800000#32) (y i) = y i
  rw [neg_inf, max_eq_right bot_le]

/-- A row's 1536 columns laid out as twelve heads of 128, heads before rows. -/
def heads (x : FVec Ideal S32768x1536 .f32) : FVec Ideal S8x12x4096x128 .f32 :=
  transpose S8x12x4096x128 [0, 2, 1, 3] (shapeCast _ x shapeCasts_S32768x1536_S8x4096x12x128) transposes_S8x4096x12x128_S8x12x4096x128_0_2_1_3

/-- The first twelve heads' cumulative gates. -/
def gates (c : FVec Ideal S8x16x1x4096 .f32) : FVec Ideal S8x12x4096 .f32 :=
  shapeCast _ (extractStridedSlice S8x12x1x4096 ![0, 0, 0, 0] c slices_S8x16x1x4096_S8x12x1x4096_0_0_0_0) shapeCasts_S8x12x1x4096_S8x12x4096

/-- The masked scores. -/
def scores (q k : FVec Ideal S8x12x4096x128 .f32) (g : FVec Ideal S8x12x4096 .f32) : FVec Ideal S8x12x4096x4096 .f32 :=
  select (broadcastInDim S8x12x4096x4096 ![2, 3] bcast_S4096x4096_S8x12x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (subf (addf (mulf (Host.dotGeneral dot_S8x12x4096x128_S8x12x4096x128_S8x12x4096x4096_3_3_2_2_01_01 none q k) (broadcastInDim S8x12x4096x4096 ![] bcast_S_S8x12x4096x4096 (constant S_ .f32 0x3DB504F3#32)))
      (broadcastInDim S8x12x4096x4096 ![0, 1, 2, 3] bcast_S8x12x4096x1_S8x12x4096x4096_0_1_2_3 (broadcastInDim S8x12x4096x1 ![0, 1, 2] bcast_S8x12x4096_S8x12x4096x1_0_1_2 g)))
      (broadcastInDim S8x12x4096x4096 ![0, 1, 2, 3] bcast_S8x12x1x4096_S8x12x4096x4096_0_1_2_3 (broadcastInDim S8x12x1x4096 ![0, 1, 3] bcast_S8x12x4096_S8x12x1x4096_0_1_3 g)))
    (broadcastInDim S8x12x4096x4096 ![] bcast_S_S8x12x4096x4096 (id (constant S_ .f32 0xFF800000#32)))

/-- Each row's largest score. -/
def tops (s : FVec Ideal S8x12x4096x4096 .f32) : FVec Ideal S8x12x4096 .f32 :=
  maximumf (broadcastInDim S8x12x4096 ![] bcast_S_S8x12x4096 (constant S_ .f32 0xFF800000#32)) (Host.reduce FloatOps.maximumf s (constant S_ .f32 0xFF800000#32) reducesTo_S8x12x4096x4096_S8x12x4096_d3 h_S_)

/-- The exponentials of the scores less their row's largest. -/
def exps (s : FVec Ideal S8x12x4096x4096 .f32) : FVec Ideal S8x12x4096x4096 .f32 :=
  Host.exp (subf s (broadcastInDim S8x12x4096x4096 ![0, 1, 2, 3] bcast_S8x12x4096x1_S8x12x4096x4096_0_1_2_3 (broadcastInDim S8x12x4096x1 ![0, 1, 2] bcast_S8x12x4096_S8x12x4096x1_0_1_2 (tops s))))

/-- Each exponential over its row's sum. -/
def probs (e : FVec Ideal S8x12x4096x4096 .f32) : FVec Ideal S8x12x4096x4096 .f32 :=
  Host.divf e (broadcastInDim S8x12x4096x4096 ![0, 1, 2, 3] bcast_S8x12x4096x1_S8x12x4096x4096_0_1_2_3 (broadcastInDim S8x12x4096x1 ![0, 1, 2] bcast_S8x12x4096_S8x12x4096x1_0_1_2 (Host.reduceAdd e (constant S_ .f32 0x00000000#32) reducesTo_S8x12x4096x4096_S8x12x4096_d3 h_S_)))

/-- The values' mean, heads back beside each other. -/
def mixed (p : FVec Ideal S8x12x4096x4096 .f32) (v : FVec Ideal S8x12x4096x128 .f32) : FVec Ideal S32768x1536 .bf16 :=
  truncf .bf16 (shapeCast _ (transpose S8x4096x12x128 [0, 2, 1, 3] (Host.dotGeneral dot_S8x12x4096x4096_S8x12x4096x128_S8x12x4096x128_3_2_2_3_01_01 none p v) transposes_S8x12x4096x128_S8x4096x12x128_0_2_1_3) shapeCasts_S8x4096x12x128_S32768x1536) bitsLt_bf16_f32

/-- The reference's result as a function of its three arguments. -/
def REF (x : FVec Ideal S32768x2048 .f32) (kv : FVec Ideal S32768x3072 .bf16) (c : FVec Ideal S8x16x1x4096 .f32) : FVec Ideal S32768x1536 .bf16 :=
  mixed (probs (exps (scores (heads (extractStridedSlice S32768x1536 ![0, 0] x slices_S32768x2048_S32768x1536_0_0))
      (heads (extf .f32 (extractStridedSlice S32768x1536 ![0, 0] kv slices_S32768x3072_S32768x1536_0_0) bitsLt_bf16_f32)) (gates c))))
    (heads (extf .f32 (extractStridedSlice S32768x1536 ![0, 1536] kv slices_S32768x3072_S32768x1536_0_1536) bitsLt_bf16_f32))

/-- The reference's run ends at that function of its arguments. -/
theorem res_eq (m : (ℓ : Loc nD τ sig) → Buf (Elt Ideal) ℓ) (c : Dev nD) :
    res_main_v43 m c = REF (m ((c.tc : Thread nD τ).loc main_arg0)) (m ((c.tc : Thread nD τ).loc main_arg1))
      (m ((c.tc : Thread nD τ).loc main_arg2)) := by
  unfold res_main_v43; rfl

/-- Row `s` of sequence `b` is row `4096 b + s`, and column `d` of head `h` column `128 h + d`. -/
theorem heads_at (x : FVec Ideal S32768x1536 .f32) (b : Fin 8) (h : Fin 12) (s : Fin 4096) (d : Fin 128) :
    heads x (ix4 b h s d) = x (ix2 ⟨4096 * b.val + s.val, by omega⟩ (hcol (by omega) h d)) := by
  pointwise [heads]
  congr 2 <;> (apply Fin.ext; simp only [hcol]; omega)

theorem gates_at (c : FVec Ideal S8x16x1x4096 .f32) (b : Fin 8) (h : Fin 12) (s : Fin 4096) :
    gates c (ix3 b h s) = c (ix4 b ⟨h.val, by omega⟩ 0 s) := by
  pointwise [gates]

theorem scores_at (q k : FVec Ideal S8x12x4096x128 .f32) (g : FVec Ideal S8x12x4096 .f32) (b : Fin 8) (h : Fin 12) (t s : Fin 4096) :
    scores q k g (ix4 b h t s) = if s.val ≤ t.val then
      (∑ d, q (ix4 b h t d) * k (ix4 b h s d)) * scale + g (ix3 b h t) - g (ix3 b h s) else ⊥ := by
  pointwise [scores]
  rw [select_le (by omega) (by omega)]
  by_cases h : s.val ≤ t.val
  · rw [if_pos h, if_pos h]
  · rw [if_neg h, if_neg h]; exact neg_inf

theorem tops_at (x : FVec Ideal S8x12x4096x4096 .f32) (b : Fin 8) (h : Fin 12) (t : Fin 4096) :
    tops x (ix3 b h t) = Finset.univ.fold max ⊥ fun u => x (ix4 b h t u) := by
  unfold tops
  rw [top_of, rowmax x _ _ _ (by exact neg_inf)]

theorem exps_at (x : FVec Ideal S8x12x4096x4096 .f32) (b : Fin 8) (h : Fin 12) (t s : Fin 4096) :
    exps x (ix4 b h t s) = Ideal.exp (x (ix4 b h t s) - Finset.univ.fold max ⊥ fun u => x (ix4 b h t u)) := by
  pointwise [exps]
  rw [tops_at]

theorem probs_at (x : FVec Ideal S8x12x4096x4096 .f32) (b : Fin 8) (h : Fin 12) (t s : Fin 4096) :
    probs x (ix4 b h t s) = Ideal.div (x (ix4 b h t s)) (∑ u, x (ix4 b h t u)) := by
  pointwise [probs]

theorem mixed_at (p : FVec Ideal S8x12x4096x4096 .f32) (v : FVec Ideal S8x12x4096x128 .f32) (R : Fin 32768) (l : Fin 1536) :
    mixed p v (ix2 R l) = ∑ s, p (ix4 ⟨R.val / 4096, by omega⟩ ⟨l.val / 128, by omega⟩ ⟨R.val % 4096, by omega⟩ s)
      * v (ix4 ⟨R.val / 4096, by omega⟩ ⟨l.val / 128, by omega⟩ s ⟨l.val % 128, by omega⟩) := by
  pointwise [mixed]

/-- The queries' columns, the keys' and the values'. -/
theorem queries_at (x : FVec Ideal S32768x2048 .f32) (R : Fin 32768) (h : Fin 12) (d : Fin 128) :
    extractStridedSlice S32768x1536 ![0, 0] x slices_S32768x2048_S32768x1536_0_0 (ix2 R (hcol (by omega) h d)) = x (ix2 R (hcol (by omega) h d)) := by
  pointwise [hcol]
theorem keys_at (x : FVec Ideal S32768x3072 .bf16) (R : Fin 32768) (h : Fin 12) (d : Fin 128) :
    extf (F := Ideal) .f32 (extractStridedSlice S32768x1536 ![0, 0] x slices_S32768x3072_S32768x1536_0_0) bitsLt_bf16_f32 (ix2 R (hcol (by omega) h d)) = x (ix2 R (hcol (by omega) h d)) := by
  pointwise [hcol]
theorem values_at (x : FVec Ideal S32768x3072 .bf16) (R : Fin 32768) (l : Fin 1536) :
    extf (F := Ideal) .f32 (extractStridedSlice S32768x1536 ![0, 1536] x slices_S32768x3072_S32768x1536_0_1536) bitsLt_bf16_f32 (ix2 R l) = x (ix2 R ⟨1536 + l.val, by omega⟩) := by
  pointwise

/-- The reference at one index is the plain function, where its scores are real. -/
theorem REF_at (x : FVec Ideal S32768x2048 .f32) (kv : FVec Ideal S32768x3072 .bf16) (c : FVec Ideal S8x16x1x4096 .f32)
    (hr : Real3 (fun R k => x (ix2 R k)) (fun R k => kv (ix2 R k)) (fun b h s => c (ix4 b ⟨h.val, by omega⟩ 0 s)))
    (R : Fin 32768) (l : Fin 1536) :
    REF x kv c (ix2 R l) = fox (fun R k => x (ix2 R k)) (fun R k => kv (ix2 R k)) (fun b h s => c (ix4 b ⟨h.val, by omega⟩ 0 s)) R l := by
  unfold REF
  rw [mixed_at]
  simp only [probs_at, exps_at]
  rw [fox]
  refine soft_att (N := 4096) (by omega) (by omega) (c (ix4 ⟨R.val / 4096, by omega⟩ ⟨l.val / 128, by omega⟩ 0 ⟨R.val % 4096, by omega⟩)).toReal _ _ (fun s => ?_) (fun s => ?_)
  · rw [scores_at]
    by_cases h : s.val ≤ R.val % 4096
    · rw [if_pos h, if_pos (by omega)]
      simp only [heads_at, gates_at]
      have e1 : ∀ q, (⟨4096 * (R.val / 4096) + R.val % 4096, q⟩ : Fin 32768) = R := fun q => by apply Fin.ext; simp only []; omega
      have e2 : ∀ q, (⟨4096 * (R.val / 4096) + s.val, q⟩ : Fin 32768) = key R s.val := fun q => by apply Fin.ext; simp only [key]; omega
      have e3 : ∀ q, (⟨s.val % 4096, q⟩ : Fin 4096) = s := fun q => by apply Fin.ext; simp only []; omega
      have r := reference_score (l := scale) (fun d => hr.q R ⟨l.val / 128, by omega⟩ d) (fun d => hr.k (key R s.val) ⟨l.val / 128, by omega⟩ d)
        scale_real (hr.c ⟨R.val / 4096, by omega⟩ ⟨l.val / 128, by omega⟩ s)
        (hr.c ⟨R.val / 4096, by omega⟩ ⟨l.val / 128, by omega⟩ ⟨R.val % 4096, by omega⟩)
      unfold sigma
      simp only [e1, e2, e3, queries_at, keys_at]
      exact r
    · rw [if_neg h, if_neg (by omega)]
  · rw [heads_at, values_at]
    unfold vals
    congr 2 <;> (apply Fin.ext; simp only [hcol, key]; omega)

end Cert.ReferenceIdeal.Fox
end
-- ==== Proof.Fox.Final.lean ====
/- The attention kernel's result array is the reference's function of the arguments. -/
module

public import proofs.«01_k».proof.Proof.Fox.Run
public import proofs.«01_k».proof.Proof.Fox.Ref
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen
open Idealize.ShloMosaic Idealize.ShloMosaic.TcCoe Idealize.SL.Sem
open Idealize.ShloMosaic.Pipeline (Dat)
open Cert.FoxMath

variable (m : (ℓ : Loc nD τ sig) → Buf (Elt Ideal) ℓ)

/-- The scores a grid point computes, over all keys of its batch entry. -/
theorem scores_at (c : Dev nD) (hr : Real3 (argQ m c) (argKV m c) (argC m c)) (t : Fin cfg0.N) (r : Fin 512) (s : Fin 4096) :
    (∑ e : Fin 128, (show EReal from iblk m c 0 t (ix2 r e)) * scale * (show EReal from iblk m c 1 t (ix2 s e))) - (show EReal from iblk m c 3 t (ix4 0 0 0 s))
    = ((sigma (argQ m c) (argKV m c) (argC m c) (row t r) (hd t) s.val : ℝ) : EReal) := by
  have hlt := lt768 t
  have e0 : (fun e : Fin 128 => (show EReal from iblk m c 0 t (ix2 r e)) * scale * (show EReal from iblk m c 1 t (ix2 s e)))
      = fun e => argQ m c (row t r) (hcol (by omega) (hd t) e) * scale * argKV m c (key (row t r) s.val) (hcol (by omega) (hd t) e) :=
    funext fun e => congrArg₂ (fun a b : EReal => a * scale * b) (b0 m c t r e) (b1 m c t r s e)
  have e1 : (show EReal from iblk m c 3 t (ix4 0 0 0 s))
      = argC m c ⟨(row t r).val / 4096, by omega⟩ (hd t) ⟨s.val % 4096, by omega⟩ := by
    refine (b3 m c t s).trans (congrArg₂ (fun a b => argC m c a (hd t) b) (Fin.ext ?_) (Fin.ext ?_)) <;> simp only [bat, row] <;> omega
  refine (congrArg₂ (fun (f : Fin 128 → EReal) (b : EReal) => (∑ e, f e) - b) e0 e1).trans ?_
  exact kernel_score (hr.q _ _) (hr.k _ _) scale_real (hr.c _ _ _)

/-- The last part of a grid point: the diagonal block is taken in and the accumulated values are divided by the accumulated weights. -/
theorem last (t : Fin cfg0.N) (r : Fin 512) (d : Fin 128) (q : Vec Ideal S512x128 .f32) (K W : Vec Ideal S4096x128 .bf16) (C : Vec Ideal S1x1x1x4096 .f32)
    (M L : FVec Ideal S512x1 .f32) (A : FVec Ideal S512x128 .f32) (σ : ℕ → ℝ) (v : ℕ → EReal)
    (hs : ∀ s : Fin 4096, (∑ e : Fin 128, q (ix2 r e) * scale * K (ix2 s e)) - C (ix4 0 0 0 s) = ((σ s.val : ℝ) : EReal))
    (hv : ∀ s : Fin 4096, W (ix2 s d) = v s.val)
    (h : Held σ v (512 * (t.val % 8)) (M (ix2 r 0)) (L (ix2 r 0)) (A (ix2 r d))) (h5 h6) :
    k0_pay1 A
      (k0_pay20 q M (View.ld K (Rect.unit (k0_off5 (grid0.coords t)) ![512, 128] h5)) (View.ld C (Rect.unit (k0_off6 (grid0.coords t)) ![1, 1, 1, 512] h6)))
      (k0_pay21 q M (View.ld K (Rect.unit (k0_off5 (grid0.coords t)) ![512, 128] h5)) (View.ld C (Rect.unit (k0_off6 (grid0.coords t)) ![1, 1, 1, 512] h6)))
      (k0_pay22 q M L (View.ld K (Rect.unit (k0_off5 (grid0.coords t)) ![512, 128] h5)) (View.ld C (Rect.unit (k0_off6 (grid0.coords t)) ![1, 1, 1, 512] h6)))
      (View.ld W (Rect.unit (k0_off5 (grid0.coords t)) ![512, 128] h5)) (ix2 r d)
    = att σ v (512 * (t.val % 8) + (r.val + 1)) := by
  rw [pay1]
  refine held_att (held_step h (N := 512) (n := r.val + 1) (by omega) (by omega) _ _ (fun k => ?_) (fun k => ?_)) (by omega)
  · unfold dscr scr
    by_cases hk : k.val ≤ r.val
    · rw [if_pos hk, if_pos (by omega), ← hs ⟨512 * (t.val % 8) + k.val, by omega⟩, ldC C _ _ _ (off6 t) k (by omega)]
      simp only [ldK K _ _ _ (off5 t) k _ (by omega : 512 * (t.val % 8) + k.val < 4096)]
    · rw [if_neg hk, if_neg (by omega)]
  · rw [← hv ⟨512 * (t.val % 8) + k.val, by omega⟩]
    exact ldK W _ _ _ (off5 t) k d _

/-- What a grid point stores is the layer's value at its row and column. -/
theorem out_at (c : Dev nD) (hr : Real3 (argQ m c) (argKV m c) (argC m c)) (t : Fin cfg0.N) (r : Fin 512) (d : Fin 128) :
    outsAt0 m c t (ix2 r d) = fox (argQ m c) (argKV m c) (argC m c) (row t r) ⟨128 * (hd t).val + d.val, by have := (hd t).isLt; omega⟩ := by
  have hlt := lt768 t
  have h1 : Scf.trips (0#32) (Scalar.addi (0#32) (Scalar.muli (Scalar.divsi (Scalar.subi (BitVec.ofNat 32 ↑(grid0.coords t 2)) 0#32) 1#32) 1#32)) 1#32
      = t.val % 8 := trips1 t
  have h2 : Scf.trips (Scalar.addi (0#32) (Scalar.muli (Scalar.divsi (Scalar.subi (BitVec.ofNat 32 ↑(grid0.coords t 2)) 0#32) 1#32) 1#32))
      (Scalar.addi (0#32) (Scalar.subi (BitVec.ofNat 32 ↑(grid0.coords t 2)) 0#32)) 1#32 = 0 := trips2 t
  have hh : (⟨(128 * (hd t).val + d.val) / 128, by have := (hd t).isLt; omega⟩ : Fin 12) = hd t := Fin.ext (by simp only []; omega)
  have hn : (row t r).val % 4096 + 1 = 512 * (t.val % 8) + (r.val + 1) := by simp only [row]; omega
  unfold fox
  rw [hn]
  refine Eq.trans ?_ (congrArg (fun h => att (sigma (argQ m c) (argKV m c) (argC m c) (row t r) h)
    (vals (argKV m c) (row t r) (hcol (by omega) (hd t) d)) (512 * (t.val % 8) + (r.val + 1))) hh.symm)
  unfold outsAt0; frame_out
  rw [h2, h1, st_k0_t2_zero]
  dsimp only
  refine last t r d _ (iblk m c 1 t) (iblk m c 2 t) (iblk m c 3 t) _ _ _ _ _ ?_ ?_ ?_ _ _
  · intro s
    exact scores_at m c hr t r s
  · intro s
    exact b2 m c t r s d
  · refine state _ _ _ _ _ _ _ _ _ _ _ _ _ (iblk m c 0 t) (iblk m c 1 t) (iblk m c 2 t) (iblk m c 3 t) t r d _ _ ?_ ?_ (t.val % 8) le_rfl
    · intro s
      exact scores_at m c hr t r s
    · intro s
      exact b2 m c t r s d

/-- A grid point stores the reference's values at the array indices where its block lies. -/
theorem point (c : Dev nD) (hr : Real3 (argQ m c) (argKV m c) (argC m c)) (t : Fin cfg0.N) (y : S512x128.Idx) :
    outsAt0 m c t y
    = Cert.ReferenceIdeal.Fox.REF (m ((c : Thread nD τ).loc main_arg0)) (m ((c : Thread nD τ).loc main_arg1))
        (m ((c : Thread nD τ).loc main_arg2)) (((cfg0.win 4).blk t).view.emb y) := by
  obtain ⟨r, d, rfl⟩ : ∃ r d, y = ix2 r d := ⟨y 0, y 1, eq_ix2 y⟩
  have hlt := lt768 t
  have ey : ((cfg0.win 4).blk t).view.emb (ix2 r d)
      = (ix2 (row t r) ⟨128 * (hd t).val + d.val, by have := (hd t).isLt; omega⟩ : S32768x1536.Idx) := by
    unfold row hd
    blk_ext [idx t]
  rw [ey]
  exact (out_at m c hr t r d).trans (Cert.ReferenceIdeal.Fox.REF_at _ _ _ hr (row t r) _).symm

/-- The result array after the run is the reference's function of the arguments. -/
theorem final (c : Dev nD) (hr : Real3 (argQ m c) (argKV m c) (argC m c)) : (dats m 0 c).arrAt 4 (cfgs 0).N
    = Cert.ReferenceIdeal.Fox.REF (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  exact point m c hr t y

end Cert.KernelIdeal.Fox
end
-- ==== Proof.Fox.Pre.lean ====
/- What the precondition says: the queries, the keys and the cumulative gates are real numbers. -/
module

public import proofs.«01_k».proof.Proof.Fox.Math
public import proofs.«01_k».proof.Pre_finite_scores
public import Idealize.ShloMosaic.Lib.ReduceAll
public import Idealize.ShloMosaic.Lib.Affine
public import Idealize.ShloMosaic.Lib.Pointwise
@[expose] public section

set_option maxRecDepth 16384

noncomputable section

namespace Cert.FoxPre

open Cert.Pre_finite_scores Cert.Pre_finite_scores.Facts
open Idealize.ShloMosaic
open Cert.FoxMath

/-- A value whose absolute value is below `+∞` is real. -/
theorem real_of_lt (x : Ideal .f32) (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  refine EReal.coe_toReal (fun e => ?_) (fun e => ?_) <;> subst e <;> simp at h

/-- The conjunction over an array, where it is 1, is 1 at each element. -/
theorem all_real {s : Shape} {axes : List (Fin s.rank)} (x : FVec Ideal s .f32) (hb : S_.BroadcastsInDim s (![] : Fin 0 → Fin s.rank)) (h : s.ReducesTo axes S_) (hu : 0 < S_.numel)
    (e : Host.reduce IntOp.andi (cmpf .olt (Host.absf x) (broadcastInDim s ![] hb (constant (F := Ideal) S_ .f32 0x7F800000#32))) (constantI S_ 1 1#1) h hu ix0 = 1#1)
    (i : s.Idx) : IsReal (x i) := by
  haveI : Subsingleton S_.Idx := ⟨fun a b => by funext k; exact k.elim0⟩
  exact real_of_lt (x i) (Host.reduce_andi_all _ _ _ _ _ e i)

variable [Cert.Pre_finite_scores.Facts]

/-- The precondition gives what the attention's value lemmas take. -/
theorem real3 (a : FVec Ideal S32768x2048 .f32) (kv : FVec Ideal S32768x3072 .bf16) (c : FVec Ideal S8x16x1x4096 .f32)
    (h : fn a kv c = fun _ => 1#1) :
    Real3 (fun R k => a (ix2 R k)) (fun R k => kv (ix2 R k)) (fun b h s => c (ix4 b ⟨h.val, by omega⟩ 0 s)) := by
  have h0 := congrFun h ix0
  dsimp only [fn, fn_part1] at h0
  obtain ⟨h01, h2⟩ := IntOp.andi_eq_one.1 h0
  obtain ⟨h0, h1⟩ := IntOp.andi_eq_one.1 h01
  refine ⟨fun R h d => ?_, fun R h d => ?_, fun b h s => ?_⟩
  · have e := all_real _ _ _ _ h0 (ix2 R ⟨128 * h.val + d.val, by omega⟩)
    pointwise at e
    exact e
  · have e := all_real _ _ _ _ h1 (ix2 R ⟨128 * h.val + d.val, by omega⟩)
    pointwise at e
    exact e
  · have e := all_real _ _ _ _ h2 (ix3 b h s)
    pointwise at e
    exact e

end Cert.FoxPre
end
-- ==== Proof.Ffn.Math.lean ====
/- The feed-forward layer in plain functions of row and column numbers, free of either program. -/
module

public import Idealize.ShloMosaic.Lib.Pipeline.ValueKit
public import Idealize.ShloMosaic.Lib.Pointwise

@[expose] public section

set_option maxRecDepth 16384

noncomputable section

namespace Cert.FfnMath

open Idealize.ShloMosaic Idealize.ShloMosaic.TcCoe Idealize.SL.Sem

/-- One entry of a normalized row: the row's entry over the root of its mean square, times the gain. -/
def rms (x g : Fin 2048 → EReal) (d : Fin 2048) : EReal :=
  x d * Ideal.rsqrt (Ideal.div (∑ k, x k * x k) (Ideal.ofBits .f32 0x45000000#32) + Ideal.ofBits .f32 0x358637BD#32) * g d

/-- The three-tap causal convolution of one column of the up projection: `h0` is the row's normalized
    input, `h1` and `h2` the ones one and two rows before it. -/
def conv (h0 h1 h2 w : Fin 2048 → EReal) (w0 w1 w2 b : EReal) : EReal :=
  w2 * ∑ k, h0 k * w k + w1 * ∑ k, h1 k * w k + w0 * ∑ k, h2 k * w k + b

/-- The gate: `a · logistic a` times the value. -/
def act (a v : EReal) : EReal := a * Ideal.logistic a * v

/-- The normalized row `n` rows before row `R` of the same sequence of 4096 rows, zero before its start. -/
def prev (X : Fin 32768 → Fin 2048 → EReal) (g : Fin 2048 → EReal) (R : Fin 32768) (n : ℕ) (k : Fin 2048) : EReal :=
  if R.val % 4096 < n then 0 else rms (X ⟨R.val - n, by omega⟩) g k

/-- Column `l` of the convolved up projection at row `R`. -/
def up (X : Fin 32768 → Fin 2048 → EReal) (g : Fin 2048 → EReal) (W : Fin 2048 → Fin 11264 → EReal)
    (cw : Fin 3 → Fin 11264 → EReal) (cb : Fin 11264 → EReal) (R : Fin 32768) (l : Fin 11264) : EReal :=
  conv (rms (X R) g) (prev X g R 1) (prev X g R 2) (fun k => W k l) (cw 0 l) (cw 1 l) (cw 2 l) (cb l)

/-- Hidden unit `l` at row `R`: the gate half's column `l` and the value half's column `5632 + l`. -/
def hid (X : Fin 32768 → Fin 2048 → EReal) (g : Fin 2048 → EReal) (W : Fin 2048 → Fin 11264 → EReal)
    (cw : Fin 3 → Fin 11264 → EReal) (cb : Fin 11264 → EReal) (R : Fin 32768) (l : Fin 5632) : EReal :=
  act (up X g W cw cb R ⟨l.val, by omega⟩) (up X g W cw cb R ⟨5632 + l.val, by omega⟩)

/-- The layer: the residual plus the down projection, normalized by the final gain. -/
def ffn (X : Fin 32768 → Fin 2048 → EReal) (g : Fin 2048 → EReal) (W : Fin 2048 → Fin 11264 → EReal)
    (cw : Fin 3 → Fin 11264 → EReal) (cb : Fin 11264 → EReal) (Wd : Fin 5632 → Fin 2048 → EReal) (gf : Fin 2048 → EReal)
    (R : Fin 32768) (d : Fin 2048) : EReal :=
  rms (fun d => X R d + ∑ l, hid X g W cw cb R l * Wd l d) gf d

/-- What a row tile keeps of its normalized input: its 512 rows, then the 16 rows before it (zero for the
    first tile of a sequence). -/
def kept (X : Fin 32768 → Fin 2048 → EReal) (g : Fin 2048 → EReal) (i : Fin 64) (q : Fin 528) (k : Fin 2048) : EReal :=
  if h : q.val < 512 then rms (X ⟨512 * i.val + q.val, by omega⟩) g k
  else if i.val % 8 = 0 then 0 else rms (X ⟨512 * i.val - 16 + (q.val - 512), by omega⟩) g k

/-- The rotation by `n` rows finds the rows before the tile among the kept ones. -/
theorem kept_rot (X : Fin 32768 → Fin 2048 → EReal) (g : Fin 2048 → EReal) (i : Fin 64) (r : Fin 512) (n : ℕ) (hn : 1 ≤ n) (hn2 : n ≤ 2)
    (h : (r.val + 528 - n) % 528 < 528) (k : Fin 2048) :
    kept X g i ⟨(r.val + 528 - n) % 528, h⟩ k = prev X g ⟨512 * i.val + r.val, by omega⟩ n k := by
  unfold kept prev
  by_cases hr : n ≤ r.val
  · have e : (r.val + 528 - n) % 528 = r.val - n := by omega
    have e3 : ¬ (512 * i.val + r.val) % 4096 < n := by omega
    have e2 : (r.val + 528 - n) % 528 < 512 := by omega
    rw [dif_pos e2, if_neg e3]
    congr 2
    apply Fin.ext; simp only []; omega
  · have e2 : ¬ (r.val + 528 - n) % 528 < 512 := by omega
    rw [dif_neg e2]
    by_cases h8 : i.val % 8 = 0
    · rw [if_pos h8, if_pos (by simp only []; omega)]
    · rw [if_neg h8, if_neg (by simp only []; omega)]
      congr 2
      apply Fin.ext; simp only []; omega

end Cert.FfnMath

end
-- ==== Proof.Ffn.Pure.lean ====
/- The feed-forward kernel's stored values at one index, in the plain functions of `Math`. -/
module

public import proofs.«01_k».proof.Proof.Ffn.Math
public import proofs.«01_k».proof.Proof.Gen.Kernel2Ideal.Value

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Cert.FfnMath

/-- The row tile's normalized rows, as they are stored. -/
theorem pay3 (x : Vec Ideal S512x2048 .f32) (g : Vec Ideal S1x2048 .f32) (r : Fin 512) (d : Fin 2048) :
    k0_pay3 (F := Ideal) x g (ix2 r d) = rms (fun k => x (ix2 r k)) (fun k => g (ix2 0 k)) d := by
  pointwise [k0_pay3, rms]

/-- The test by which a tile is known to start a sequence. -/
theorem starts : ∀ i : Fin 64, Scalar.cmpi CmpIPredicate.eq
        (Scalar.select
          (Scalar.andi
            (Scalar.xori (Scalar.cmpi CmpIPredicate.slt (Scalar.remsi (BitVec.ofNat 32 i.val) 8#32) 0#32)
              (Scalar.cmpi CmpIPredicate.slt 8#32 0#32))
            (Scalar.cmpi CmpIPredicate.ne (Scalar.remsi (BitVec.ofNat 32 i.val) 8#32) 0#32))
          (Scalar.addi (Scalar.remsi (BitVec.ofNat 32 i.val) 8#32) 8#32) (Scalar.remsi (BitVec.ofNat 32 i.val) 8#32))
        0#32 = if i.val % 8 = 0 then 1#1 else 0#1 := by decide +kernel

/-- The halo as it is stored: its normalized rows, zero where the tile starts a sequence. -/
theorem pay5 (x : Vec Ideal S16x2048 .f32) (g : Vec Ideal S1x2048 .f32) (i : Fin 64) (r : Fin 16) (d : Fin 2048) :
    k0_pay5 (F := Ideal) (k0_pay4 x g) 8#32 (Scalar.remsi (BitVec.ofNat 32 i.val) 8#32)
      (Scalar.cmpi CmpIPredicate.ne (Scalar.remsi (BitVec.ofNat 32 i.val) 8#32) 0#32) 0#32 (ix2 r d)
      = if i.val % 8 = 0 then 0 else rms (fun k => x (ix2 r k)) (fun k => g (ix2 0 k)) d := by
  pointwise [k0_pay5, k0_pay4, rms]
  rw [starts i]
  by_cases h : i.val % 8 = 0
  · rw [if_pos h, if_pos h]; rfl
  · rw [if_neg h, if_neg h]; rfl

/-- The output's last step: the residual added, then the final normalization. -/
theorem pay2 (x a : Vec Ideal S512x2048 .f32) (g : Vec Ideal S1x2048 .f32) (r : Fin 512) (d : Fin 2048) :
    k0_pay2 (F := Ideal) x a g (ix2 r d) = rms (fun k => x (ix2 r k) + a (ix2 r k)) (fun k => g (ix2 0 k)) d := by
  pointwise [k0_pay2, rms]

/-- The accumulator's start. -/
theorem pay6 (x : S512x2048.Idx) : k0_pay6 (F := Ideal) x = 0 := by pointwise [k0_pay6]

/-- One column of the convolved up projection of a tile, from the kept rows `h`. -/
def upk (h : Fin 528 → Fin 2048 → EReal) (w : Vec Ideal S2048x512 .bf16) (cw : Vec Ideal S3x512 .f32) (cb : Vec Ideal S1x512 .f32)
    (r j : Fin 512) : EReal :=
  conv (h ⟨r.val, by omega⟩) (h ⟨(r.val + 528 - 1) % 528, by omega⟩) (h ⟨(r.val + 528 - 2) % 528, by omega⟩)
    (fun k => w (ix2 k j)) (cw (ix2 0 j)) (cw (ix2 1 j)) (cw (ix2 2 j)) (cb (ix2 0 j))

/-- The accumulator grows by the down projection of the tile's hidden units. -/
theorem pay1 (h : Vec Ideal S528x2048 .bf16) (wa wv : Vec Ideal S2048x512 .bf16) (cwa cwv : Vec Ideal S3x512 .f32)
    (cba cbv : Vec Ideal S1x512 .f32) (acc : Vec Ideal S512x2048 .f32) (wd : Vec Ideal S512x2048 .bf16)
    (r : Fin 512) (d : Fin 2048) :
    k0_pay1 (F := Ideal) (k0_pay7 h wa cwa cba) (k0_pay8 h wv) (k0_pay9 h wv cwv) (k0_pay10 cwv) 2#32 cbv acc wd (ix2 r d)
    = acc (ix2 r d) + ∑ j : Fin 512, act (upk (fun q k => h (ix2 q k)) wa cwa cba r j) (upk (fun q k => h (ix2 q k)) wv cwv cbv r j)
        * wd (ix2 j d) := by
  pointwise [k0_pay1, k0_pay7, k0_pay8, k0_pay9, k0_pay10, upk, conv, act]

end Cert.Kernel2Ideal.Ffn
end
-- ==== Proof.Ffn.Ref.lean ====
/- The feed-forward layer's reference at one index, in the plain functions of `Math`. -/
module

public import proofs.«01_k».proof.Proof.Ffn.Math
public import proofs.«01_k».proof.Proof.Gen.Reference2Ideal.Run

@[expose] public section

set_option maxRecDepth 16384

noncomputable section

namespace Cert.Reference2Ideal.Ffn

open Cert.Reference2Ideal Cert.Reference2Ideal.Gen Cert.Reference2Ideal.Value
open Idealize.ShloMosaic Idealize.ShloMosaic.TcCoe Idealize.SL.Sem
open Cert.FfnMath

/-- A normalized array. -/
def nrm (x : FVec Ideal S8x4096x2048 .f32) (g : FVec Ideal S2048 .f32) : FVec Ideal S8x4096x2048 .f32 :=
  mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))

/-- The up projection with two zero rows before each sequence. -/
def padded (h : FVec Ideal S8x4096x2048 .f32) (w : FVec Ideal S2048x11264 .bf16) : FVec Ideal S8x4098x11264 .f32 :=
  pad S8x4098x11264 ![0, 2, 0] ![0, 0, 0] ![0, 0, 0] (Host.dotGeneral dot_S8x4096x2048_S2048x11264_S8x4096x11264_2_0_01_1_n_n none h (extf .f32 w bitsLt_bf16_f32)) (sitofp .f32 (constantI S_ 32 0#32)) pads_S8x4096x11264_S8x4098x11264_000_200_000 h_S_

/-- The convolution. -/
def convd (p : FVec Ideal S8x4098x11264 .f32) (cw : FVec Ideal S3x11264 .f32) (cb : FVec Ideal S11264 .f32) : FVec Ideal S8x4096x11264 .f32 :=
  addf (addf (addf (mulf (broadcastInDim S8x4096x11264 ![0, 1, 2] bcast_S1x1x11264_S8x4096x11264_0_1_2 (broadcastInDim S1x1x11264 ![2] bcast_S11264_S1x1x11264_2 (shapeCast _ (extractStridedSlice S1x11264 ![0, 0] cw slices_S3x11264_S1x11264_0_0) shapeCasts_S1x11264_S11264))) (extractStridedSlice S8x4096x11264 ![0, 0, 0] p slices_S8x4098x11264_S8x4096x11264_0_0_0))
    (mulf (broadcastInDim S8x4096x11264 ![0, 1, 2] bcast_S1x1x11264_S8x4096x11264_0_1_2 (broadcastInDim S1x1x11264 ![2] bcast_S11264_S1x1x11264_2 (shapeCast _ (extractStridedSlice S1x11264 ![1, 0] cw slices_S3x11264_S1x11264_1_0) shapeCasts_S1x11264_S11264))) (extractStridedSlice S8x4096x11264 ![0, 1, 0] p slices_S8x4098x11264_S8x4096x11264_0_1_0)))
    (mulf (broadcastInDim S8x4096x11264 ![0, 1, 2] bcast_S1x1x11264_S8x4096x11264_0_1_2 (broadcastInDim S1x1x11264 ![2] bcast_S11264_S1x1x11264_2 (shapeCast _ (extractStridedSlice S1x11264 ![2, 0] cw slices_S3x11264_S1x11264_2_0) shapeCasts_S1x11264_S11264))) (extractStridedSlice S8x4096x11264 ![0, 2, 0] p slices_S8x4098x11264_S8x4096x11264_0_2_0)))
    (broadcastInDim S8x4096x11264 ![0, 1, 2] bcast_S1x1x11264_S8x4096x11264_0_1_2 (broadcastInDim S1x1x11264 ![2] bcast_S11264_S1x1x11264_2 cb))

/-- The gated hidden units. -/
def gated (y : FVec Ideal S8x4096x11264 .f32) : FVec Ideal S8x4096x5632 .f32 :=
  mulf (mulf (extractStridedSlice S8x4096x5632 ![0, 0, 0] y slices_S8x4096x11264_S8x4096x5632_0_0_0)
    (Host.divf (broadcastInDim S8x4096x5632 ![] bcast_S_S8x4096x5632 (constant S_ .f32 0x3F800000#32)) (addf (broadcastInDim S8x4096x5632 ![] bcast_S_S8x4096x5632 (constant S_ .f32 0x3F800000#32)) (Host.exp (Host.negf (extractStridedSlice S8x4096x5632 ![0, 0, 0] y slices_S8x4096x11264_S8x4096x5632_0_0_0))))))
    (extractStridedSlice S8x4096x5632 ![0, 0, 5632] y slices_S8x4096x11264_S8x4096x5632_0_0_5632)

/-- The residual plus the down projection. -/
def summed (x : FVec Ideal S8x4096x2048 .f32) (a : FVec Ideal S8x4096x5632 .f32) (wd : FVec Ideal S5632x2048 .bf16) : FVec Ideal S8x4096x2048 .f32 :=
  addf x (Host.dotGeneral dot_S8x4096x5632_S5632x2048_S8x4096x2048_2_0_01_1_n_n none a (extf .f32 wd bitsLt_bf16_f32))

/-- The rows laid out as 8 sequences of 4096. -/
def seqs (x : FVec Ideal S32768x2048 .f32) : FVec Ideal S8x4096x2048 .f32 := shapeCast _ x shapeCasts_S32768x2048_S8x4096x2048

/-- The reference's result as a function of the seven arguments. -/
def REF (x : FVec Ideal S32768x2048 .f32) (g : FVec Ideal S2048 .f32) (w : FVec Ideal S2048x11264 .bf16) (cw : FVec Ideal S3x11264 .f32)
    (cb : FVec Ideal S11264 .f32) (wd : FVec Ideal S5632x2048 .bf16) (gf : FVec Ideal S2048 .f32) : FVec Ideal S32768x2048 .f32 :=
  shapeCast _ (nrm (summed (seqs x) (gated (convd (padded (nrm (seqs x) g) w) cw cb)) wd) gf) shapeCasts_S8x4096x2048_S32768x2048

/-- The reference's run ends at that function of its arguments. -/
theorem res_eq (m : (ℓ : Loc nD τ sig) → Buf (Elt Ideal) ℓ) (c : Dev nD) :
    res_main_v60 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v60; rfl

/-- A normalized array at one index. -/
theorem nrm_at (x : FVec Ideal S8x4096x2048 .f32) (g : FVec Ideal S2048 .f32) (b : Fin 8) (s : Fin 4096) (d : Fin 2048) :
    nrm x g (ix3 b s d) = rms (fun k => x (ix3 b s k)) (fun k => g (ix1 k)) d := by
  pointwise [nrm, rms]

/-- The padded up projection `n` rows before row `s`. -/
theorem padded_at (h : FVec Ideal S8x4096x2048 .f32) (w : FVec Ideal S2048x11264 .bf16) (b : Fin 8) (s : Fin 4098) (l : Fin 11264) :
    padded h w (ix3 b s l) = if h2 : 2 ≤ s.val then ∑ k, h (ix3 b ⟨s.val - 2, by omega⟩ k) * w (ix2 k l) else 0 := by
  pointwise [padded]
  by_cases h2 : 2 ≤ s.val
  · rw [dif_pos h2, dif_pos ⟨h2, by omega⟩]
  · rw [dif_neg h2, dif_neg (by omega)]
    show (((0#32 : BitVec 32).toInt : ℝ) : EReal) = 0
    simp

/-- The convolution at one index. -/
theorem convd_at (p : FVec Ideal S8x4098x11264 .f32) (cw : FVec Ideal S3x11264 .f32) (cb : FVec Ideal S11264 .f32) (b : Fin 8) (s : Fin 4096) (l : Fin 11264) :
    convd p cw cb (ix3 b s l) = cw (ix2 0 l) * p (ix3 b ⟨s.val, by omega⟩ l) + cw (ix2 1 l) * p (ix3 b ⟨1 + s.val, by omega⟩ l)
      + cw (ix2 2 l) * p (ix3 b ⟨2 + s.val, by omega⟩ l) + cb (ix1 l) := by
  pointwise [convd]

/-- The gate at one index. -/
theorem gated_at (y : FVec Ideal S8x4096x11264 .f32) (b : Fin 8) (s : Fin 4096) (l : Fin 5632) :
    gated y (ix3 b s l) = act (y (ix3 b s ⟨l.val, by omega⟩)) (y (ix3 b s ⟨5632 + l.val, by omega⟩)) := by
  pointwise [gated, act]
  rfl

/-- The sum at one index. -/
theorem summed_at (x : FVec Ideal S8x4096x2048 .f32) (a : FVec Ideal S8x4096x5632 .f32) (wd : FVec Ideal S5632x2048 .bf16) (b : Fin 8) (s : Fin 4096) (d : Fin 2048) :
    summed x a wd (ix3 b s d) = x (ix3 b s d) + ∑ l : Fin 5632, a (ix3 b s l) * wd (ix2 l d) := by
  pointwise [summed]

/-- Row `s` of sequence `b` is row `4096 b + s`. -/
theorem seqs_at (x : FVec Ideal S32768x2048 .f32) (R : Fin 32768) (n : ℕ) (hn : n ≤ R.val % 4096) (d : Fin 2048) :
    seqs x (ix3 ⟨R.val / 4096, by omega⟩ ⟨R.val % 4096 - n, by omega⟩ d) = x (ix2 ⟨R.val - n, by omega⟩ d) := by
  pointwise [seqs]
  congr 2
  apply Fin.ext; simp only []; omega

/-- The padded up projection of the normalized rows, `n` rows before row `R`. -/
theorem tap (x : FVec Ideal S32768x2048 .f32) (g : FVec Ideal S2048 .f32) (w : FVec Ideal S2048x11264 .bf16) (R : Fin 32768)
    (n : ℕ) (hn : n ≤ 2) (l : Fin 11264) (hl : 2 - n + R.val % 4096 < 4098) :
    padded (nrm (seqs x) g) w (ix3 ⟨R.val / 4096, by omega⟩ ⟨2 - n + R.val % 4096, hl⟩ l)
      = ∑ k, prev (fun R k => x (ix2 R k)) (fun k => g (ix1 k)) R n k * w (ix2 k l) := by
  rw [padded_at]
  by_cases h : R.val % 4096 < n
  · rw [dif_neg (by simp only []; omega)]
    symm
    refine Finset.sum_eq_zero fun k _ => ?_
    rw [prev, if_pos h, zero_mul]
  · rw [dif_pos (by simp only []; omega)]
    refine Finset.sum_congr rfl fun k _ => ?_
    have e : (⟨2 - n + R.val % 4096 - 2, by omega⟩ : Fin 4096) = ⟨R.val % 4096 - n, by omega⟩ := by
      apply Fin.ext; simp only []; omega
    rw [prev, if_neg h, nrm_at, e]
    simp only [seqs_at x R n (by omega)]

/-- The convolved up projection at row `R`. -/
theorem up_at (x : FVec Ideal S32768x2048 .f32) (g : FVec Ideal S2048 .f32) (w : FVec Ideal S2048x11264 .bf16) (cw : FVec Ideal S3x11264 .f32)
    (cb : FVec Ideal S11264 .f32) (R : Fin 32768) (l : Fin 11264) :
    convd (padded (nrm (seqs x) g) w) cw cb (ix3 ⟨R.val / 4096, by omega⟩ ⟨R.val % 4096, by omega⟩ l)
      = up (fun R k => x (ix2 R k)) (fun k => g (ix1 k)) (fun k l => w (ix2 k l)) (fun a l => cw (ix2 a l)) (fun l => cb (ix1 l)) R l := by
  have t0 := tap x g w R 0 (by omega) l (by omega)
  have t1 := tap x g w R 1 (by omega) l (by omega)
  have t2 := tap x g w R 2 (by omega) l (by omega)
  have e2 : ∀ h, (⟨R.val % 4096, h⟩ : Fin 4098) = ⟨2 - 2 + R.val % 4096, by omega⟩ := fun h => by
    apply Fin.ext; simp only []; omega
  have p0 : ∀ k, prev (fun R k => x (ix2 R k)) (fun k => g (ix1 k)) R 0 k
      = rms (fun k => x (ix2 R k)) (fun k => g (ix1 k)) k := fun k => if_neg (by omega)
  simp only [p0] at t0
  rw [convd_at, e2, t0, t1, t2, up, conv]
  ac_nf

/-- The reference at one index is the plain function. -/
theorem REF_at (x : FVec Ideal S32768x2048 .f32) (g : FVec Ideal S2048 .f32) (w : FVec Ideal S2048x11264 .bf16) (cw : FVec Ideal S3x11264 .f32)
    (cb : FVec Ideal S11264 .f32) (wd : FVec Ideal S5632x2048 .bf16) (gf : FVec Ideal S2048 .f32) (R : Fin 32768) (d : Fin 2048) :
    REF x g w cw cb wd gf (ix2 R d) = ffn (fun R k => x (ix2 R k)) (fun k => g (ix1 k)) (fun k l => w (ix2 k l)) (fun a l => cw (ix2 a l))
      (fun l => cb (ix1 l)) (fun l d => wd (ix2 l d)) (fun k => gf (ix1 k)) R d := by
  pointwise [REF]
  rw [nrm_at]
  have s0 := seqs_at x R 0 (by omega)
  simp only [Nat.sub_zero] at s0
  simp only [summed_at, gated_at, up_at, s0]
  rfl

end Cert.Reference2Ideal.Ffn
end
-- ==== Proof.Ffn.Run.lean ====
/- The feed-forward kernel's run: what each grid point leaves in its buffers, and the result array. -/
module

public import proofs.«01_k».proof.Proof.Ffn.Pure
public import proofs.«01_k».proof.Proof.Ffn.Ref

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)
open Cert.FfnMath

variable (m : (ℓ : Loc nD τ sig) → Buf (Elt Ideal) ℓ)

/-- The input's rows. -/
def argX (c : Dev nD) (R : Fin 32768) (k : Fin 2048) : EReal := m ((c : Thread nD τ).loc main_arg0) (ix2 R k)
/-- The gain. -/
def argG (c : Dev nD) (k : Fin 2048) : EReal := m ((c : Thread nD τ).loc main_arg1) (ix1 k)
/-- The up projection's weights. -/
def argW (c : Dev nD) (k : Fin 2048) (l : Fin 11264) : EReal := m ((c : Thread nD τ).loc main_arg2) (ix2 k l)
/-- The convolution's taps. -/
def argCw (c : Dev nD) (a : Fin 3) (l : Fin 11264) : EReal := m ((c : Thread nD τ).loc main_arg3) (ix2 a l)
/-- The convolution's bias. -/
def argCb (c : Dev nD) (l : Fin 11264) : EReal := m ((c : Thread nD τ).loc main_arg4) (ix1 l)
/-- The down projection's weights. -/
def argWd (c : Dev nD) (l : Fin 5632) (d : Fin 2048) : EReal := m ((c : Thread nD τ).loc main_arg5) (ix2 l d)
/-- The final gain. -/
def argGf (c : Dev nD) (k : Fin 2048) : EReal := m ((c : Thread nD τ).loc main_arg6) (ix1 k)

/-- Every window's block index at every grid point. -/
theorem idx : ∀ t : Fin cfg0.N, win0_0.index t = ![t.val / 11, 0] ∧ win0_1.index t = ![t.val / 11 * 32 - 1, 0]
    ∧ win0_2.index t = ![0, 0] ∧ win0_3.index t = ![0, t.val % 11] ∧ win0_4.index t = ![0, 11 + t.val % 11]
    ∧ win0_5.index t = ![0, t.val % 11] ∧ win0_6.index t = ![0, 11 + t.val % 11]
    ∧ win0_7.index t = ![0, t.val % 11] ∧ win0_8.index t = ![0, 11 + t.val % 11]
    ∧ win0_9.index t = ![t.val % 11, 0] ∧ win0_10.index t = ![0, 0] ∧ win0_11.index t = ![t.val / 11, 0] :=
  (by decide +kernel : ∀ t : Fin grid0.N, _)

/-- The grid point's row-tile number, as the kernel's own coordinate. -/
theorem coord : ∀ t : Fin cfg0.N, (grid0.coords t 0).val = t.val / 11 :=
  (by decide +kernel : ∀ t : Fin grid0.N, _)

theorem lt704 (t : Fin cfg0.N) : t.val < 704 := t.isLt

/-- The grid point's row tile. -/
def tile (t : Fin cfg0.N) : Fin 64 := ⟨t.val / 11, by have := lt704 t; omega⟩

theorem b0 (c : Dev nD) (t : Fin cfg0.N) (r : Fin 512) (k : Fin 2048) (h : 512 * (t.val / 11) + r.val < 32768) :
    iblk m c 0 t (ix2 r k) = argX m c ⟨512 * (t.val / 11) + r.val, h⟩ k := by
  unfold argX
  blk_point [iblk, V, idx t]
theorem b1 (c : Dev nD) (t : Fin cfg0.N) (r : Fin 16) (k : Fin 2048) (h0 : t.val / 11 % 8 ≠ 0) (h : 512 * (t.val / 11) - 16 + r.val < 32768) :
    iblk m c 1 t (ix2 r k) = argX m c ⟨512 * (t.val / 11) - 16 + r.val, h⟩ k := by
  unfold argX
  blk_point [iblk, V, idx t]
theorem b2 (c : Dev nD) (t : Fin cfg0.N) (k : Fin 2048) : iblk m c 2 t (ix2 0 k) = argG m c k := by
  unfold argG
  blk_point [iblk, V, idx t]
theorem b3 (c : Dev nD) (t : Fin cfg0.N) (k : Fin 2048) (j : Fin 512) (h : t.val % 11 * 512 + j.val < 11264) :
    iblk m c 3 t (ix2 k j) = argW m c k ⟨t.val % 11 * 512 + j.val, h⟩ := by
  unfold argW
  blk_point [iblk, V, idx t]
theorem b4 (c : Dev nD) (t : Fin cfg0.N) (k : Fin 2048) (j : Fin 512) (h : 5632 + (t.val % 11 * 512 + j.val) < 11264) :
    iblk m c 4 t (ix2 k j) = argW m c k ⟨5632 + (t.val % 11 * 512 + j.val), h⟩ := by
  unfold argW
  blk_point [iblk, V, idx t]
theorem b5 (c : Dev nD) (t : Fin cfg0.N) (a : Fin 3) (j : Fin 512) (h : t.val % 11 * 512 + j.val < 11264) :
    iblk m c 5 t (ix2 a j) = argCw m c a ⟨t.val % 11 * 512 + j.val, h⟩ := by
  unfold argCw
  blk_point [iblk, V, idx t]
theorem b6 (c : Dev nD) (t : Fin cfg0.N) (a : Fin 3) (j : Fin 512) (h : 5632 + (t.val % 11 * 512 + j.val) < 11264) :
    iblk m c 6 t (ix2 a j) = argCw m c a ⟨5632 + (t.val % 11 * 512 + j.val), h⟩ := by
  unfold argCw
  blk_point [iblk, V, idx t]
theorem b7 (c : Dev nD) (t : Fin cfg0.N) (j : Fin 512) (h : t.val % 11 * 512 + j.val < 11264) :
    iblk m c 7 t (ix2 0 j) = argCb m c ⟨t.val % 11 * 512 + j.val, h⟩ := by
  unfold argCb
  blk_point [iblk, V, idx t]
theorem b8 (c : Dev nD) (t : Fin cfg0.N) (j : Fin 512) (h : 5632 + (t.val % 11 * 512 + j.val) < 11264) :
    iblk m c 8 t (ix2 0 j) = argCb m c ⟨5632 + (t.val % 11 * 512 + j.val), h⟩ := by
  unfold argCb
  blk_point [iblk, V, idx t]
theorem b9 (c : Dev nD) (t : Fin cfg0.N) (j : Fin 512) (d : Fin 2048) (h : t.val % 11 * 512 + j.val < 5632) :
    iblk m c 9 t (ix2 j d) = argWd m c ⟨t.val % 11 * 512 + j.val, h⟩ d := by
  unfold argWd
  blk_point [iblk, V, idx t]
theorem b10 (c : Dev nD) (t : Fin cfg0.N) (k : Fin 2048) : iblk m c 10 t (ix2 0 k) = argGf m c k := by
  unfold argGf
  blk_point [iblk, V, idx t]

end Cert.Kernel2Ideal.Ffn
end
-- ==== Proof.Ffn.Acc.lean ====
/- The feed-forward kernel's scratch buffers after every grid point: the normalized rows it keeps, and
   the down projection summed over the hidden tiles so far. -/
module

public import proofs.«01_k».proof.Proof.Ffn.Run
public import Idealize.ShloMosaic.Lib.Pipeline.ReadBack

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)
open Cert.FfnMath

variable (m : (ℓ : Loc nD τ sig) → Buf (Elt Ideal) ℓ)

/-- The rows kept at a grid point. -/
def H (c : Dev nD) (t : Fin cfg0.N) : Fin 528 → Fin 2048 → EReal := kept (argX m c) (argG m c) (tile t)

/-- The halo's stored rows. -/
theorem haloA (c : Dev nD) (t : Fin cfg0.N) (r : Fin 16) (k : Fin 2048) (q : Fin 528) (hq : q.val = 512 + r.val) :
    k0_pay5 (F := Ideal) (k0_pay4 (iblk m c 1 t) (iblk m c 2 t)) 8#32 (Scalar.remsi (BitVec.ofNat 32 ↑(grid0.coords t 0)) 8#32)
      (Scalar.cmpi CmpIPredicate.ne (Scalar.remsi (BitVec.ofNat 32 ↑(grid0.coords t 0)) 8#32) 0#32) 0#32 (ix2 r k) = H m c t q k := by
  have e : ((grid0.coords t 0).val) = (tile t).val := coord t
  rw [e]
  refine (pay5 (iblk m c 1 t) (iblk m c 2 t) (tile t) r k).trans ?_
  have hlt := lt704 t
  unfold H kept
  rw [dif_neg (by omega)]
  by_cases h8 : (tile t).val % 8 = 0
  · rw [if_pos h8, if_pos h8]
  · rw [if_neg h8, if_neg h8]
    have e1 : (fun k => iblk m c 1 t (ix2 r k)) = argX m c ⟨512 * (tile t).val - 16 + (q.val - 512), by have := (tile t).isLt; omega⟩ := by
      funext k
      refine (b1 m c t r k h8 (by have := (tile t).isLt; simp only [tile] at this; omega)).trans ?_
      congr 2
      simp only [tile]; omega
    have e2 : (fun k => iblk m c 2 t (ix2 0 k)) = argG m c := funext fun k => b2 m c t k
    exact congrArg₂ (fun a b => rms a b k) e1 e2

/-- The tile's own stored rows. -/
theorem rowsA (c : Dev nD) (t : Fin cfg0.N) (r : Fin 512) (k : Fin 2048) (q : Fin 528) (hq : q.val = r.val) :
    k0_pay3 (F := Ideal) (iblk m c 0 t) (iblk m c 2 t) (ix2 r k) = H m c t q k := by
  refine (pay3 (iblk m c 0 t) (iblk m c 2 t) r k).trans ?_
  have hlt := lt704 t
  unfold H kept
  rw [dif_pos (by omega)]
  have e1 : (fun k => iblk m c 0 t (ix2 r k)) = argX m c ⟨512 * (tile t).val + q.val, by have := (tile t).isLt; omega⟩ := by
    funext k
    refine (b0 m c t r k (by omega)).trans ?_
    congr 2
    simp only [tile]; omega
  have e2 : (fun k => iblk m c 2 t (ix2 0 k)) = argG m c := funext fun k => b2 m c t k
  exact congrArg₂ (fun a b => rms a b k) e1 e2

/-- The first point of a row tile fills the buffer of kept rows. -/
theorem keptA (c : Dev nD) (t : Fin cfg0.N) (h0 : t.val % 11 = 0) (h1 : ¬t.val % 11 = 10) (y : S528x2048.Idx) :
    (outsAt0 m c t.val t.isLt).2.1 y = H m c t (y 0) (y 1) := by
  rw [outsAt0_A m c t h0 h1]; frame_out
  canon_tiles x h using View.cover_of_tiledBy _ ![16, 2048] (by sl_kernel_rfl) y
  · obtain ⟨r, k, rfl⟩ : ∃ r k, x = ix2 r k := ⟨x 0, x 1, eq_ix2 x⟩
    have e1 : y 1 = k := Fin.ext h1
    rw [e1]
    exact haloA m c t r k (y 0) h0
  · obtain ⟨r, k, rfl⟩ : ∃ r k, x = ix2 r k := ⟨x 0, x 1, eq_ix2 x⟩
    have e1 : y 1 = k := Fin.ext h1
    rw [e1]
    exact rowsA m c t r k (y 0) h0

/-- What a grid point adds to the accumulator, from the kept rows `h`. -/
def part (c : Dev nD) (t : Fin cfg0.N) (h : Fin 528 → Fin 2048 → EReal) (r : Fin 512) (d : Fin 2048) : EReal :=
  ∑ j : Fin 512, act (upk h (iblk m c 3 t) (iblk m c 5 t) (iblk m c 7 t) r j) (upk h (iblk m c 4 t) (iblk m c 6 t) (iblk m c 8 t) r j)
    * (show EReal from iblk m c 9 t (ix2 j d))

/-- The first point of a row tile starts the accumulator at its own part. -/
theorem accA (c : Dev nD) (t : Fin cfg0.N) (h0 : t.val % 11 = 0) (h1 : ¬t.val % 11 = 10) (r : Fin 512) (d : Fin 2048) :
    (outsAt0 m c t.val t.isLt).2.2 (ix2 r d) = part m c t (H m c t) r d := by
  have hk := fun q k => keptA m c t h0 h1 (ix2 q k)
  rw [outsAt0_A m c t h0 h1] at hk ⊢
  frame_out at hk
  frame_out
  refine (pay1 ..).trans ?_
  rw [pay6, zero_add]
  refine congrArg (fun h => part m c t h r d) (funext fun q => funext fun k => ?_)
  refine (congrFun (View.readCov_eq_canon' ..) _).trans ?_
  refine (congrArg _ (?_ : _ = ix2 q k)).trans (hk q k)
  idx_ext

/-- The later points leave the kept rows as they are. -/
theorem keptBC (c : Dev nD) (t : Fin cfg0.N) (h0 : ¬ t.val % 11 = 0) :
    (outsAt0 m c t.val t.isLt).2.1 = (outsAt0 m c (t.val - 1) (by omega)).2.1 := by
  by_cases h1 : t.val % 11 = 10
  · rw [outsAt0_C m c t h0 h1]; rfl
  · rw [outsAt0_B m c t h0 h1]; rfl

/-- Points of one row tile keep the same rows. -/
theorem H_succ (c : Dev nD) (n : ℕ) (hn : n + 1 < cfg0.N) (h0 : ¬ (n + 1) % 11 = 0) (q : Fin 528) (k : Fin 2048) :
    H m c ⟨n, by omega⟩ q k = H m c ⟨n + 1, hn⟩ q k := by
  have e : tile ⟨n, by omega⟩ = tile ⟨n + 1, hn⟩ := by
    apply Fin.ext; simp only [tile]; omega
  unfold H
  rw [e]

/-- After every grid point the buffer of kept rows holds its row tile's. -/
theorem keptAll (c : Dev nD) (n : ℕ) (hn : n < cfg0.N) (q : Fin 528) (k : Fin 2048) :
    (outsAt0 m c n hn).2.1 (ix2 q k) = H m c ⟨n, hn⟩ q k := by
  induction n with
  | zero => exact keptA m c ⟨0, hn⟩ rfl (by simp only []; omega) (ix2 q k)
  | succ n ih =>
    by_cases h0 : (n + 1) % 11 = 0
    · exact keptA m c ⟨n + 1, hn⟩ h0 (by simp only []; omega) (ix2 q k)
    · refine (congrFun (keptBC m c ⟨n + 1, hn⟩ h0) _).trans ((ih (by omega)).trans ?_)
      exact H_succ m c n hn h0 q k

/-- A later point adds its part to what the point before it left. -/
theorem accBC (c : Dev nD) (t : Fin cfg0.N) (h0 : ¬ t.val % 11 = 0) (r : Fin 512) (d : Fin 2048) :
    (outsAt0 m c t.val t.isLt).2.2 (ix2 r d) = (show EReal from (outsAt0 m c (t.val - 1) (by omega)).2.2 (ix2 r d)) + part m c t (H m c t) r d := by
  have hlt := lt704 t
  have hk : ∀ q k, (outsAt0 m c (t.val - 1) (by omega)).2.1 (ix2 q k) = H m c t q k := fun q k => by
    refine (keptAll m c (t.val - 1) _ q k).trans ?_
    have e : tile ⟨t.val - 1, by omega⟩ = tile t := by
      apply Fin.ext; simp only [tile]; omega
    unfold H
    rw [e]
  by_cases h1 : t.val % 11 = 10
  · rw [outsAt0_C m c t h0 h1]
    frame_out
    simp only [read_unread_whole]
    refine (pay1 ..).trans ?_
    refine congrArg (fun h => _ + part m c t h r d) (funext fun q => funext fun k => ?_)
    exact hk q k
  · rw [outsAt0_B m c t h0 h1]
    frame_out
    simp only [read_unread_whole]
    refine (pay1 ..).trans ?_
    refine congrArg (fun h => _ + part m c t h r d) (funext fun q => funext fun k => ?_)
    exact hk q k

/-- The last point of a row tile stores the residual plus the accumulator, normalized. -/
theorem outC (c : Dev nD) (t : Fin cfg0.N) (h0 : ¬ t.val % 11 = 0) (h1 : t.val % 11 = 10) :
    (outsAt0 m c t.val t.isLt).1 = k0_pay2 (F := Ideal) (iblk m c 0 t) (outsAt0 m c t.val t.isLt).2.2 (iblk m c 10 t) := by
  rw [outsAt0_C m c t h0 h1]
  frame_out

end Cert.Kernel2Ideal.Ffn
end
-- ==== Proof.Ffn.Final.lean ====
/- The feed-forward kernel's result array is the reference's function of the arguments. -/
module

public import proofs.«01_k».proof.Proof.Ffn.Acc

@[expose] public section

set_option maxRecDepth 16384

noncomputable section

namespace Cert.Kernel2Ideal.Ffn

open Cert.Kernel2Ideal Cert.Kernel2Ideal.Gen
open Idealize.ShloMosaic Idealize.ShloMosaic.TcCoe Idealize.SL.Sem
open Idealize.ShloMosaic.Pipeline (Dat)
open Cert.FfnMath

variable (m : (ℓ : Loc nD τ sig) → Buf (Elt Ideal) ℓ)

/-- The array row of the tile's row `r`. -/
def row (t : Fin cfg0.N) (r : Fin 512) : Fin 32768 := ⟨512 * (t.val / 11) + r.val, by have := lt704 t; omega⟩

/-- The kept row `r` and the two before it are the array's. -/
theorem taps (c : Dev nD) (t : Fin cfg0.N) (r : Fin 512) :
    H m c t ⟨r.val, by omega⟩ = rms (argX m c (row t r)) (argG m c)
    ∧ H m c t ⟨(r.val + 528 - 1) % 528, by omega⟩ = prev (argX m c) (argG m c) (row t r) 1
    ∧ H m c t ⟨(r.val + 528 - 2) % 528, by omega⟩ = prev (argX m c) (argG m c) (row t r) 2 := by
  refine ⟨funext fun k => ?_, funext fun k => ?_, funext fun k => ?_⟩
  · exact dif_pos r.isLt
  · exact kept_rot _ _ (tile t) r 1 (by omega) (by omega) _ k
  · exact kept_rot _ _ (tile t) r 2 (by omega) (by omega) _ k

/-- The gate half of the tile's up projection. -/
theorem upA (c : Dev nD) (t : Fin cfg0.N) (r j : Fin 512) (h : t.val % 11 * 512 + j.val < 11264) :
    upk (H m c t) (iblk m c 3 t) (iblk m c 5 t) (iblk m c 7 t) r j
    = up (argX m c) (argG m c) (argW m c) (argCw m c) (argCb m c) (row t r) ⟨t.val % 11 * 512 + j.val, h⟩ := by
  obtain ⟨e0, e1, e2⟩ := taps m c t r
  have ew : (fun k => iblk m c 3 t (ix2 k j)) = fun k => argW m c k ⟨t.val % 11 * 512 + j.val, h⟩ := funext fun k => b3 m c t k j h
  unfold upk up
  rw [e0, e1, e2]
  exact (congrArg (fun w => conv _ _ _ w _ _ _ _) ew).trans
    (congr (congr (congr (congrArg _ (b5 m c t 0 j h)) (b5 m c t 1 j h)) (b5 m c t 2 j h)) (b7 m c t j h))

/-- The value half of the tile's up projection. -/
theorem upV (c : Dev nD) (t : Fin cfg0.N) (r j : Fin 512) (h : 5632 + (t.val % 11 * 512 + j.val) < 11264) :
    upk (H m c t) (iblk m c 4 t) (iblk m c 6 t) (iblk m c 8 t) r j
    = up (argX m c) (argG m c) (argW m c) (argCw m c) (argCb m c) (row t r) ⟨5632 + (t.val % 11 * 512 + j.val), h⟩ := by
  obtain ⟨e0, e1, e2⟩ := taps m c t r
  have ew : (fun k => iblk m c 4 t (ix2 k j)) = fun k => argW m c k ⟨5632 + (t.val % 11 * 512 + j.val), h⟩ := funext fun k => b4 m c t k j h
  unfold upk up
  rw [e0, e1, e2]
  exact (congrArg (fun w => conv _ _ _ w _ _ _ _) ew).trans
    (congr (congr (congr (congrArg _ (b6 m c t 0 j h)) (b6 m c t 1 j h)) (b6 m c t 2 j h)) (b8 m c t j h))

/-- A grid point's part is the sum over its 512 hidden units. -/
theorem part_eq (c : Dev nD) (t : Fin cfg0.N) (r : Fin 512) (d : Fin 2048) :
    part m c t (H m c t) r d = ∑ j : Fin 512, hid (argX m c) (argG m c) (argW m c) (argCw m c) (argCb m c) (row t r)
      ⟨t.val % 11 * 512 + j.val, by omega⟩ * argWd m c ⟨t.val % 11 * 512 + j.val, by omega⟩ d := by
  unfold part
  refine Finset.sum_congr rfl fun j _ => ?_
  refine congrArg₂ (· * ·) (congrArg₂ act ?_ ?_) (b9 m c t j d (by omega))
  · exact upA m c t r j (by omega)
  · exact upV m c t r j (by omega)

/-- What starts each row tile at its first point's part and grows by every later point's is the whole down projection at the last. -/
theorem sum_parts (c : Dev nD) (A : (n : ℕ) → n < cfg0.N → S512x2048.Idx → EReal)
    (hA : ∀ (t : Fin cfg0.N), t.val % 11 = 0 → ∀ r d, A t.val t.isLt (ix2 r d) = part m c t (H m c t) r d)
    (hB : ∀ (t : Fin cfg0.N) (h : ¬ t.val % 11 = 0) r d, A t.val t.isLt (ix2 r d) = A (t.val - 1) (by omega) (ix2 r d) + part m c t (H m c t) r d)
    (t : Fin cfg0.N) (h1 : t.val % 11 = 10) (r : Fin 512) (d : Fin 2048) :
    A t.val t.isLt (ix2 r d)
    = ∑ l : Fin 5632, hid (argX m c) (argG m c) (argW m c) (argCw m c) (argCb m c) (row t r) l * argWd m c l d := by
  have hlt := lt704 t
  refine (Pipeline.eq_sum_fin_of_reset_step_apply_of_flush (fun n h (i : Fin 512 × Fin 2048) => A n h (ix2 i.1 i.2))
    11 (fun _ => 0) (fun t i => part m c t (H m c t) i.1 i.2)
    (fun t h i => by rw [zero_add]; exact hA t h i.1 i.2)
    (fun t h i => hB t h i.1 i.2) t h1 (r, d)).trans ?_
  rw [zero_add]
  simp only [part_eq]
  refine Fin.sum_mul_add_congr fun s k hl => ?_
  have e1 : row ⟨11 * (t.val / 11) + s.val, Pipeline.run_point_lt_of_flush t h1 s⟩ r = row t r := by
    apply Fin.ext; simp only [row]; omega
  have e2 : ∀ h, (⟨(11 * (t.val / 11) + s.val) % 11 * 512 + k.val, h⟩ : Fin 5632) = ⟨s.val * 512 + k.val, hl⟩ := fun h => by
    apply Fin.ext; simp only []; omega
  rw [e1, e2]

/-- The accumulator at the last point of a row tile: the whole down projection. -/
theorem acc_all (c : Dev nD) (t : Fin cfg0.N) (h1 : t.val % 11 = 10) (r : Fin 512) (d : Fin 2048) :
    (outsAt0 m c t.val t.isLt).2.2 (ix2 r d)
    = ∑ l : Fin 5632, hid (argX m c) (argG m c) (argW m c) (argCw m c) (argCb m c) (row t r) l * argWd m c l d :=
  sum_parts m c (fun n h => (outsAt0 m c n h).2.2) (fun t h r d => accA m c t h (by omega) r d) (fun t h r d => accBC m c t h r d) t h1 r d

/-- Where the output block of a point lies. -/
theorem emb_out (t : Fin cfg0.N) (r : Fin 512) (d : Fin 2048) :
    ((cfg0.win 11).blk t).view.emb (ix2 r d) = (ix2 (row t r) d : S32768x2048.Idx) := by
  have hlt := lt704 t
  unfold row
  blk_ext [idx t]

/-- What the last point of a row tile stores is the reference's value at the array index where it lies. -/
theorem point (c : Dev nD) (t : Fin cfg0.N) (h1 : t.val % 11 = 10) (y : S512x2048.Idx) :
    (outsAt0 m c t.val t.isLt).1 y
    = Cert.Reference2Ideal.Ffn.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (m ((c : Thread nD τ).loc main_arg6))
        (((cfg0.win 11).blk t).view.emb y) := by
  obtain ⟨r, d, rfl⟩ : ∃ r d, y = ix2 r d := ⟨y 0, y 1, eq_ix2 y⟩
  have hlt := lt704 t
  rw [emb_out]
  refine Eq.trans ?_ (Cert.Reference2Ideal.Ffn.REF_at _ _ _ _ _ _ _ (row t r) d).symm
  rw [outC m c t (by omega) h1]
  refine (pay2 _ _ _ r d).trans ?_
  have e1 : (fun k => (show EReal from iblk m c 0 t (ix2 r k)) + (outsAt0 m c t.val t.isLt).2.2 (ix2 r k))
      = fun k => argX m c (row t r) k + ∑ l : Fin 5632, hid (argX m c) (argG m c) (argW m c) (argCw m c) (argCb m c) (row t r) l * argWd m c l k :=
    funext fun k => congrArg₂ (· + ·) (b0 m c t r k (by omega)) (acc_all m c t h1 r k)
  have e2 : (fun k => iblk m c 10 t (ix2 0 k)) = argGf m c := funext fun k => b10 m c t k
  exact congrArg₂ (fun a b => rms a b d) e1 e2

/-- The result array after the run is the reference's function of the arguments. -/
theorem final (c : Dev nD) : (dats m 0 c).arrAt 11 (cfgs 0).N
    = Cert.Reference2Ideal.Ffn.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11]
  exact point m c t ((flush0_11 t).mp hf) y

end Cert.Kernel2Ideal.Ffn
end
-- ==== Proof.Ffn.PlainRef.lean ====
/- The reference of the feed-forward layer without the final norm, at one index: the other reference's functions but the last. -/
module

public import proofs.«01_k».proof.Proof.Ffn.Ref
public import proofs.«01_k».proof.Proof.Gen.Reference4Ideal.Run

@[expose] public section

set_option maxRecDepth 16384

noncomputable section

namespace Cert.Reference4Ideal.Ffn

open Cert.Reference4Ideal Cert.Reference4Ideal.Gen Cert.Reference4Ideal.Value
open Idealize.ShloMosaic Idealize.ShloMosaic.TcCoe Idealize.SL.Sem
open Cert.FfnMath
open Cert.Reference2Ideal.Ffn (nrm padded convd gated summed seqs seqs_at summed_at gated_at up_at)

/-- The reference's result as a function of the arguments it reads. -/
def REF (x : FVec Ideal S32768x2048 .f32) (g : FVec Ideal S2048 .f32) (w : FVec Ideal S2048x11264 .bf16) (cw : FVec Ideal S3x11264 .f32)
    (cb : FVec Ideal S11264 .f32) (wd : FVec Ideal S5632x2048 .bf16) : FVec Ideal S32768x2048 .f32 :=
  shapeCast _ (summed (seqs x) (gated (convd (padded (nrm (seqs x) g) w) cw cb)) wd) shapeCasts_S8x4096x2048_S32768x2048

/-- The reference's run ends at that function of its arguments. -/
theorem res_eq (m : (ℓ : Loc nD τ sig) → Buf (Elt Ideal) ℓ) (c : Dev nD) :
    res_main_v47 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  unfold res_main_v47; rfl

/-- The reference at one index: the residual plus the down projection of the hidden units. -/
theorem REF_at (x : FVec Ideal S32768x2048 .f32) (g : FVec Ideal S2048 .f32) (w : FVec Ideal S2048x11264 .bf16) (cw : FVec Ideal S3x11264 .f32)
    (cb : FVec Ideal S11264 .f32) (wd : FVec Ideal S5632x2048 .bf16) (R : Fin 32768) (d : Fin 2048) :
    REF x g w cw cb wd (ix2 R d) = x (ix2 R d) + ∑ l : Fin 5632, hid (fun R k => x (ix2 R k)) (fun k => g (ix1 k)) (fun k l => w (ix2 k l))
      (fun a l => cw (ix2 a l)) (fun l => cb (ix1 l)) R l * wd (ix2 l d) := by
  pointwise [REF]
  have s0 := seqs_at x R 0 (by omega)
  simp only [Nat.sub_zero] at s0
  simp only [summed_at, gated_at, up_at, s0]
  rfl

end Cert.Reference4Ideal.Ffn
end
-- ==== Proof.Ffn.Plain.lean ====
/- The feed-forward layer without the final norm. Its kernel is the other one's but for what the last point of a row
   tile stores, so the rows, the weights and the parts of the sum are the ones named there. -/
module

public import proofs.«01_k».proof.Proof.Gen.Kernel4Ideal.Value
public import proofs.«01_k».proof.Proof.Ffn.Final
public import proofs.«01_k».proof.Proof.Ffn.PlainRef
public import Idealize.ShloMosaic.Lib.Pipeline.ReadBack

@[expose] public section

set_option maxRecDepth 16384

noncomputable section

namespace Cert.Kernel4Ideal.Ffn

open Cert.Kernel4Ideal Cert.Kernel4Ideal.Gen
open Idealize.ShloMosaic Idealize.ShloMosaic.TcCoe Idealize.SL.Sem
open Idealize.ShloMosaic.Pipeline (Dat)
open Cert.FfnMath
open Cert.Kernel2Ideal.Ffn (H part part_eq tile row haloA rowsA argX argG argW argCw argCb argWd)

variable (m : (ℓ : Loc nD τ sig) → Buf (Elt Ideal) ℓ)

theorem lt704 (t : Fin cfg0.N) : t.val < 704 := t.isLt

/-- The first point of a row tile fills the buffer of kept rows. -/
theorem keptA (c : Dev nD) (t : Fin cfg0.N) (h0 : t.val % 11 = 0) (h1 : ¬t.val % 11 = 10) (y : S528x2048.Idx) :
    (outsAt0 m c t.val t.isLt).2.1 y = H m c t (y 0) (y 1) := by
  rw [outsAt0_A m c t h0 h1]; frame_out
  canon_tiles x h using View.cover_of_tiledBy _ ![16, 2048] (by sl_kernel_rfl) y
  · obtain ⟨r, k, rfl⟩ : ∃ r k, x = ix2 r k := ⟨x 0, x 1, eq_ix2 x⟩
    have e1 : y 1 = k := Fin.ext h1
    rw [e1]
    exact haloA m c t r k (y 0) h0
  · obtain ⟨r, k, rfl⟩ : ∃ r k, x = ix2 r k := ⟨x 0, x 1, eq_ix2 x⟩
    have e1 : y 1 = k := Fin.ext h1
    rw [e1]
    exact rowsA m c t r k (y 0) h0

/-- The first point of a row tile starts the accumulator at its own part. -/
theorem accA (c : Dev nD) (t : Fin cfg0.N) (h0 : t.val % 11 = 0) (h1 : ¬t.val % 11 = 10) (r : Fin 512) (d : Fin 2048) :
    (outsAt0 m c t.val t.isLt).2.2 (ix2 r d) = part m c t (H m c t) r d := by
  have hk := fun q k => keptA m c t h0 h1 (ix2 q k)
  rw [outsAt0_A m c t h0 h1] at hk ⊢
  frame_out at hk
  frame_out
  refine (Cert.Kernel2Ideal.Ffn.pay1 ..).trans ?_
  rw [show k0_pay6 (F := Ideal) (ix2 r d) = 0 from Cert.Kernel2Ideal.Ffn.pay6 _, zero_add]
  refine congrArg (fun h => part m c t h r d) (funext fun q => funext fun k => ?_)
  refine (congrFun (View.readCov_eq_canon' ..) _).trans ?_
  refine (congrArg _ (?_ : _ = ix2 q k)).trans (hk q k)
  idx_ext

/-- The later points leave the kept rows as they are. -/
theorem keptBC (c : Dev nD) (t : Fin cfg0.N) (h0 : ¬ t.val % 11 = 0) :
    (outsAt0 m c t.val t.isLt).2.1 = (outsAt0 m c (t.val - 1) (by omega)).2.1 := by
  by_cases h1 : t.val % 11 = 10
  · rw [outsAt0_C m c t h0 h1]; rfl
  · rw [outsAt0_B m c t h0 h1]; rfl

/-- After every grid point the buffer of kept rows holds its row tile's. -/
theorem keptAll (c : Dev nD) (n : ℕ) (hn : n < cfg0.N) (q : Fin 528) (k : Fin 2048) :
    (outsAt0 m c n hn).2.1 (ix2 q k) = H m c ⟨n, hn⟩ q k := by
  induction n with
  | zero => exact keptA m c ⟨0, hn⟩ rfl (by simp only []; omega) (ix2 q k)
  | succ n ih =>
    by_cases h0 : (n + 1) % 11 = 0
    · exact keptA m c ⟨n + 1, hn⟩ h0 (by simp only []; omega) (ix2 q k)
    · refine (congrFun (keptBC m c ⟨n + 1, hn⟩ h0) _).trans ((ih (by omega)).trans ?_)
      exact Cert.Kernel2Ideal.Ffn.H_succ m c n (by simpa using hn) h0 q k

/-- A later point adds its part to what the point before it left. -/
theorem accBC (c : Dev nD) (t : Fin cfg0.N) (h0 : ¬ t.val % 11 = 0) (r : Fin 512) (d : Fin 2048) :
    (outsAt0 m c t.val t.isLt).2.2 (ix2 r d) = (show EReal from (outsAt0 m c (t.val - 1) (by omega)).2.2 (ix2 r d)) + part m c t (H m c t) r d := by
  have hk : ∀ q k, (outsAt0 m c t.val t.isLt).2.1 (ix2 q k) = H m c t q k := fun q k => keptAll m c t.val t.isLt q k
  rw [keptBC m c t h0] at hk
  by_cases h1 : t.val % 11 = 10
  · rw [outsAt0_C m c t h0 h1]
    frame_out
    simp only [read_unread_whole]
    refine (Cert.Kernel2Ideal.Ffn.pay1 ..).trans ?_
    refine congrArg (fun h => _ + part m c t h r d) (funext fun q => funext fun k => ?_)
    exact hk q k
  · rw [outsAt0_B m c t h0 h1]
    frame_out
    simp only [read_unread_whole]
    refine (Cert.Kernel2Ideal.Ffn.pay1 ..).trans ?_
    refine congrArg (fun h => _ + part m c t h r d) (funext fun q => funext fun k => ?_)
    exact hk q k

/-- The last point of a row tile stores the residual plus the accumulator. -/
theorem outC (c : Dev nD) (t : Fin cfg0.N) (h0 : ¬ t.val % 11 = 0) (h1 : t.val % 11 = 10) :
    (outsAt0 m c t.val t.isLt).1 = k0_pay2 (F := Ideal) (iblk m c 0 t) (outsAt0 m c t.val t.isLt).2.2 := by
  rw [outsAt0_C m c t h0 h1]
  frame_out

/-- The accumulator at the last point of a row tile: the whole down projection. -/
theorem acc_all (c : Dev nD) (t : Fin cfg0.N) (h1 : t.val % 11 = 10) (r : Fin 512) (d : Fin 2048) :
    (outsAt0 m c t.val t.isLt).2.2 (ix2 r d)
    = ∑ l : Fin 5632, hid (argX m c) (argG m c) (argW m c) (argCw m c) (argCb m c) (row t r) l * argWd m c l d := by
  exact Cert.Kernel2Ideal.Ffn.sum_parts m c (fun n h => (outsAt0 m c n h).2.2)
    (fun t h r d => accA m c t h (by omega) r d) (fun t h r d => accBC m c t h r d) t h1 r d

/-- What the last point of a row tile stores is the reference's value at the array index where it lies. -/
theorem point (c : Dev nD) (t : Fin cfg0.N) (h1 : t.val % 11 = 10) (y : S512x2048.Idx) :
    (outsAt0 m c t.val t.isLt).1 y
    = Cert.Reference4Ideal.Ffn.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (((cfg0.win 11).blk t).view.emb y) := by
  obtain ⟨r, d, rfl⟩ : ∃ r d, y = ix2 r d := ⟨y 0, y 1, eq_ix2 y⟩
  have hlt := lt704 t
  have ey : ((cfg0.win 11).blk t).view.emb (ix2 r d) = (ix2 (row t r) d : S32768x2048.Idx) := Cert.Kernel2Ideal.Ffn.emb_out t r d
  rw [ey]
  refine Eq.trans ?_ (Cert.Reference4Ideal.Ffn.REF_at _ _ _ _ _ _ (row t r) d).symm
  rw [outC m c t (by omega) h1]
  refine Eq.trans (b := (show EReal from iblk m c 0 t (ix2 r d)) + (outsAt0 m c t.val t.isLt).2.2 (ix2 r d)) (by pointwise [k0_pay2]) ?_
  exact congrArg₂ (fun a b : EReal => a + b) (Cert.Kernel2Ideal.Ffn.b0 m c t r d (by omega)) (acc_all m c t h1 r d)

/-- The result array after the run is the reference's function of the arguments. -/
theorem final (c : Dev nD) : (dats m 0 c).arrAt 11 (cfgs 0).N
    = Cert.Reference4Ideal.Ffn.REF (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 11 _ (by decide +kernel) fun t hf y => ?_
  blk_simp
  rw [after0_11]
  exact point m c t ((flush0_11 t).mp hf) y

end Cert.Kernel4Ideal.Ffn
end
-- ==== Proof.Proj.Math.lean ====
/- A projection of normalized rows, and a buffer that only the first point of each row tile writes. -/
module

public import proofs.«01_k».proof.Proof.Ffn.Math

@[expose] public section

set_option maxRecDepth 16384

noncomputable section

namespace Cert.ProjMath

open Cert.FfnMath

/-- The rows of `x`, normalized with gain `g`, times `w`. -/
def proj {m n : ℕ} (x : Fin m → Fin 2048 → EReal) (g : Fin 2048 → EReal) (w : Fin 2048 → Fin n → EReal) (R : Fin m) (l : Fin n) : EReal :=
  ∑ k, rms (x R) g k * w k l

/-- What is written at the multiples of `J` and kept elsewhere depends on the quotient alone. -/
theorem carried {α : Type} {N J : ℕ} (S : (n : ℕ) → n < N → α) (f : ℕ → α)
    (hA : ∀ n h, n % J = 0 → S n h = f (n / J)) (hB : ∀ n (h : n < N) (h0 : ¬ n % J = 0), S n h = S (n - 1) (by omega))
    (n : ℕ) (h : n < N) : S n h = f (n / J) := by
  induction n with
  | zero => exact hA 0 h (Nat.zero_mod J)
  | succ n ih =>
    by_cases h0 : (n + 1) % J = 0
    · exact hA _ h h0
    · refine (hB _ h h0).trans ((ih (by omega)).trans ?_)
      rw [Nat.succ_div, if_neg (fun hd => h0 (Nat.mod_eq_zero_of_dvd hd)), Nat.add_zero]

end Cert.ProjMath
end
-- ==== Proof.Proj.Gla.lean ====
/- The input projection of the gated linear attention: its kernel's result array is the reference's function of the arguments. -/
module

public import proofs.«01_k».proof.Proof.Proj.Math
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Proj

open Cert.Kernel5Ideal Cert.Kernel5Ideal.Gen
open Idealize.ShloMosaic Idealize.ShloMosaic.TcCoe Idealize.SL.Sem
open Idealize.ShloMosaic.Pipeline (Dat)
open Cert.FfnMath Cert.ProjMath

variable (m : (ℓ : Loc nD τ sig) → Buf (Elt Ideal) ℓ)

/-- A tile's normalized rows. -/
theorem pay1 (x : FVec Ideal S1024x2048 .f32) (g : FVec Ideal S1x2048 .f32) (r : Fin 1024) (k : Fin 2048) :
    k0_pay1 (F := Ideal) x g (ix2 r k) = rms (fun k => x (ix2 r k)) (fun k => g (ix2 0 k)) k := by
  pointwise [k0_pay1, rms]

/-- The product of a tile's rows with a block of columns. -/
theorem pay2 (h : FVec Ideal S1024x2048 .bf16) (w : FVec Ideal S2048x1152 .bf16) (r : Fin 1024) (d : Fin 1152) :
    k0_pay2 (F := Ideal) h w (ix2 r d) = ∑ k, h (ix2 r k) * w (ix2 k d) := by
  pointwise [k0_pay2]

theorem lt160 (t : Fin cfg0.N) : t.val < 160 := t.isLt

theorem idx : ∀ t : Fin cfg0.N, win0_0.index t = ![t.val / 5, 0] ∧ win0_1.index t = ![0, 0]
    ∧ win0_2.index t = ![0, t.val % 5] ∧ win0_3.index t = ![t.val / 5, t.val % 5] :=
  (by decide +kernel : ∀ t : Fin grid0.N, _)

/-- The rows, the gain and the columns. -/
def argX (c : Dev nD) (R : Fin 32768) (k : Fin 2048) : EReal := m ((c : Thread nD τ).loc main_arg0) (ix2 R k)
def argG (c : Dev nD) (k : Fin 2048) : EReal := m ((c : Thread nD τ).loc main_arg1) (ix1 k)
def argW (c : Dev nD) (k : Fin 2048) (l : Fin 5760) : EReal := m ((c : Thread nD τ).loc main_arg2) (ix2 k l)

/-- Row `r` of tile `n`, and column `d` of a point's block. -/
def row (n : ℕ) (r : Fin 1024) : Fin 32768 := ⟨(n * 1024 + r.val) % 32768, by omega⟩
def col (t : Fin cfg0.N) (d : Fin 1152) : Fin 5760 := ⟨t.val % 5 * 1152 + d.val, by omega⟩

theorem b0 (c : Dev nD) (t : Fin cfg0.N) (r : Fin 1024) (k : Fin 2048) : iblk m c 0 t (ix2 r k) = argX m c (row (t.val / 5) r) k := by
  have hlt := lt160 t
  have e : row (t.val / 5) r = ⟨t.val / 5 * 1024 + r.val, by omega⟩ := Fin.ext (Nat.mod_eq_of_lt (by omega))
  rw [e]
  unfold argX
  blk_point [iblk, V, idx t]
theorem b1 (c : Dev nD) (t : Fin cfg0.N) (k : Fin 2048) : iblk m c 1 t (ix2 0 k) = argG m c k := by
  unfold argG
  blk_point [iblk, V, idx t]
theorem b2 (c : Dev nD) (t : Fin cfg0.N) (k : Fin 2048) (d : Fin 1152) : iblk m c 2 t (ix2 k d) = argW m c k (col t d) := by
  unfold argW col
  blk_point [iblk, V, idx t]

/-- Every point finds, or stores, its row tile's normalized rows. -/
theorem kept (c : Dev nD) (r : Fin 1024) (k : Fin 2048) (n : ℕ) (h : n < cfg0.N) :
    (outsAt0 m c n h).2 (ix2 r k) = rms (argX m c (row (n / 5) r)) (argG m c) k := by
  refine carried (fun n h => (show EReal from (outsAt0 m c n h).2 (ix2 r k))) (fun q => rms (argX m c (row q r)) (argG m c) k) (fun n h h0 => ?_) (fun n h h0 => ?_) n h
  · have e := outsAt0_A m c ⟨n, h⟩ h0
    dsimp only at e ⊢
    rw [e]; frame_out
    refine (pay1 _ _ r k).trans ?_
    exact congrArg₂ (fun a b => rms a b k) (funext fun k => b0 m c ⟨n, h⟩ r k) (funext fun k => b1 m c ⟨n, h⟩ k)
  · have e := outsAt0_B m c ⟨n, h⟩ h0
    dsimp only at e ⊢
    rw [e]; rfl

/-- What a point stores. -/
theorem out_at (c : Dev nD) (t : Fin cfg0.N) (r : Fin 1024) (d : Fin 1152) :
    (outsAt0 m c t.val t.isLt).1 (ix2 r d) = proj (argX m c) (argG m c) (argW m c) (row (t.val / 5) r) (col t d) := by
  have hk := fun k => kept m c r k t.val t.isLt
  by_cases h0 : t.val % 5 = 0
  · rw [outsAt0_A m c t h0] at hk ⊢
    frame_out at hk
    frame_out
    refine (pay2 _ _ r d).trans ?_
    exact Finset.sum_congr rfl fun k _ => congrArg₂ (fun a b : EReal => a * b) (hk k) (b2 m c t k d)
  · have e : (outsAt0 m c t.val t.isLt).2 = (outsAt0 m c (t.val - 1) (by omega)).2 := by rw [outsAt0_B m c t h0]; rfl
    rw [e] at hk
    rw [outsAt0_B m c t h0]
    frame_out
    simp only [read_unread_whole]
    refine (pay2 _ _ r d).trans ?_
    exact Finset.sum_congr rfl fun k _ => congrArg₂ (fun a b : EReal => a * b) (hk k) (b2 m c t k d)

/-- The result array after the run, at one index. -/
theorem final (c : Dev nD) : (dats m 0 c).arrAt 3 (cfgs 0).N
    = (fun y => proj (argX m c) (argG m c) (argW m c) (y 0) (y 1) : S32768x5760.Idx → EReal) := by
  refine (dats m 0 c).arrAt_eq_of_covers 3 _ (by decide +kernel) fun t hf y => ?_
  blk_simp
  rw [after0_3]
  obtain ⟨r, d, rfl⟩ : ∃ r d, y = ix2 r d := ⟨y 0, y 1, eq_ix2 y⟩
  have hlt := lt160 t
  have ey : ((cfg0.win 3).blk t).view.emb (ix2 r d) = (ix2 (row (t.val / 5) r) (col t d) : S32768x5760.Idx) := by
    have e : row (t.val / 5) r = ⟨t.val / 5 * 1024 + r.val, by omega⟩ := Fin.ext (Nat.mod_eq_of_lt (by omega))
    rw [e]
    unfold col
    blk_ext [idx t]
  rw [ey]
  exact out_at m c t r d

end Cert.Kernel5Ideal.Proj

namespace Cert.Reference5Ideal.Proj

open Cert.Reference5Ideal Cert.Reference5Ideal.Gen
open Idealize.ShloMosaic Idealize.ShloMosaic.TcCoe
open Cert.FfnMath Cert.ProjMath

/-- The reference's term at one index. -/
theorem ref_at (x : FVec Ideal S32768x2048 .f32) (g : FVec Ideal S2048 .f32) (w : FVec Ideal S2048x5760 .bf16) (R : Fin 32768) (l : Fin 5760) :
    Host.dotGeneral dot_S32768x2048_S2048x5760_S32768x5760_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) (extf .f32 w bitsLt_bf16_f32) (ix2 R l)
    = proj (fun R k => x (ix2 R k)) (fun k => g (ix1 k)) (fun k l => w (ix2 k l)) R l := by
  pointwise [proj, rms]

end Cert.Reference5Ideal.Proj
end
-- ==== Proof.Proj.FoxIn.lean ====
/- The input projection of the forgetting attention: its kernel's result array is the reference's function of the arguments. -/
module

public import proofs.«01_k».proof.Proof.Proj.Gla
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.Proj

open Cert.Kernel6Ideal Cert.Kernel6Ideal.Gen
open Idealize.ShloMosaic Idealize.ShloMosaic.TcCoe Idealize.SL.Sem
open Idealize.ShloMosaic.Pipeline (Dat)
open Cert.FfnMath Cert.ProjMath

variable (m : (ℓ : Loc nD τ sig) → Buf (Elt Ideal) ℓ)

/-- The product of a tile's rows with a block of columns. -/
theorem pay2 (h : FVec Ideal S1024x2048 .bf16) (w : FVec Ideal S2048x1024 .bf16) (r : Fin 1024) (d : Fin 1024) :
    k0_pay2 (F := Ideal) h w (ix2 r d) = ∑ k, h (ix2 r k) * w (ix2 k d) := by
  pointwise [k0_pay2]

theorem ltN (t : Fin cfg0.N) : t.val < 64 := t.isLt

theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The rows, the gain and the columns. -/
def argX (c : Dev nD) (R : Fin 32768) (k : Fin 2048) : EReal := m ((c : Thread nD τ).loc main_arg0) (ix2 R k)
def argG (c : Dev nD) (k : Fin 2048) : EReal := m ((c : Thread nD τ).loc main_arg1) (ix1 k)
def argW (c : Dev nD) (k : Fin 2048) (l : Fin 2048) : EReal := m ((c : Thread nD τ).loc main_arg2) (ix2 k l)

/-- Row `r` of tile `n`, and column `d` of a point's block. -/
def row (n : ℕ) (r : Fin 1024) : Fin 32768 := ⟨(n * 1024 + r.val) % 32768, by omega⟩
def col (t : Fin cfg0.N) (d : Fin 1024) : Fin 2048 := ⟨t.val % 2 * 1024 + d.val, by omega⟩

theorem b0 (c : Dev nD) (t : Fin cfg0.N) (r : Fin 1024) (k : Fin 2048) : iblk m c 0 t (ix2 r k) = argX m c (row (t.val / 2) r) k := by
  have hlt := ltN t
  have e : row (t.val / 2) r = ⟨t.val / 2 * 1024 + r.val, by omega⟩ := Fin.ext (Nat.mod_eq_of_lt (by omega))
  rw [e]
  unfold argX
  blk_point [iblk, V, idx t]
theorem b1 (c : Dev nD) (t : Fin cfg0.N) (k : Fin 2048) : iblk m c 1 t (ix2 0 k) = argG m c k := by
  unfold argG
  blk_point [iblk, V, idx t]
theorem b2 (c : Dev nD) (t : Fin cfg0.N) (k : Fin 2048) (d : Fin 1024) : iblk m c 2 t (ix2 k d) = argW m c k (col t d) := by
  unfold argW col
  blk_point [iblk, V, idx t]

/-- Every point finds, or stores, its row tile's normalized rows. -/
theorem kept (c : Dev nD) (r : Fin 1024) (k : Fin 2048) (n : ℕ) (h : n < cfg0.N) :
    (outsAt0 m c n h).2 (ix2 r k) = rms (argX m c (row (n / 2) r)) (argG m c) k := by
  refine carried (fun n h => (show EReal from (outsAt0 m c n h).2 (ix2 r k))) (fun q => rms (argX m c (row q r)) (argG m c) k) (fun n h h0 => ?_) (fun n h h0 => ?_) n h
  · have e := outsAt0_A m c ⟨n, h⟩ h0
    dsimp only at e ⊢
    rw [e]; frame_out
    refine (Cert.Kernel5Ideal.Proj.pay1 _ _ r k).trans ?_
    exact congrArg₂ (fun a b => rms a b k) (funext fun k => b0 m c ⟨n, h⟩ r k) (funext fun k => b1 m c ⟨n, h⟩ k)
  · have e := outsAt0_B m c ⟨n, h⟩ h0
    dsimp only at e ⊢
    rw [e]; rfl

/-- What a point stores. -/
theorem out_at (c : Dev nD) (t : Fin cfg0.N) (r : Fin 1024) (d : Fin 1024) :
    (outsAt0 m c t.val t.isLt).1 (ix2 r d) = proj (argX m c) (argG m c) (argW m c) (row (t.val / 2) r) (col t d) := by
  have hk := fun k => kept m c r k t.val t.isLt
  by_cases h0 : t.val % 2 = 0
  · rw [outsAt0_A m c t h0] at hk ⊢
    frame_out at hk
    frame_out
    refine (pay2 _ _ r d).trans ?_
    exact Finset.sum_congr rfl fun k _ => congrArg₂ (fun a b : EReal => a * b) (hk k) (b2 m c t k d)
  · have e : (outsAt0 m c t.val t.isLt).2 = (outsAt0 m c (t.val - 1) (by omega)).2 := by rw [outsAt0_B m c t h0]; rfl
    rw [e] at hk
    rw [outsAt0_B m c t h0]
    frame_out
    simp only [read_unread_whole]
    refine (pay2 _ _ r d).trans ?_
    exact Finset.sum_congr rfl fun k _ => congrArg₂ (fun a b : EReal => a * b) (hk k) (b2 m c t k d)

/-- The result array after the run, at one index. -/
theorem final (c : Dev nD) : (dats m 0 c).arrAt 3 (cfgs 0).N
    = (fun y => proj (argX m c) (argG m c) (argW m c) (y 0) (y 1) : S32768x2048.Idx → EReal) := by
  refine (dats m 0 c).arrAt_eq_of_covers 3 _ (by decide +kernel) fun t hf y => ?_
  blk_simp
  rw [after0_3]
  obtain ⟨r, d, rfl⟩ : ∃ r d, y = ix2 r d := ⟨y 0, y 1, eq_ix2 y⟩
  have hlt := ltN t
  have ey : ((cfg0.win 3).blk t).view.emb (ix2 r d) = (ix2 (row (t.val / 2) r) (col t d) : S32768x2048.Idx) := by
    have e : row (t.val / 2) r = ⟨t.val / 2 * 1024 + r.val, by omega⟩ := Fin.ext (Nat.mod_eq_of_lt (by omega))
    rw [e]
    unfold col
    blk_ext [idx t]
  rw [ey]
  exact out_at m c t r d

end Cert.Kernel6Ideal.Proj

namespace Cert.Reference6Ideal.Proj

open Cert.Reference6Ideal Cert.Reference6Ideal.Gen
open Idealize.ShloMosaic Idealize.ShloMosaic.TcCoe
open Cert.FfnMath Cert.ProjMath

/-- The reference's term at one index. -/
theorem ref_at (x : FVec Ideal S32768x2048 .f32) (g : FVec Ideal S2048 .f32) (w : FVec Ideal S2048x2048 .bf16) (R : Fin 32768) (l : Fin 2048) :
    Host.dotGeneral dot_S32768x2048_S2048x2048_S32768x2048_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) (extf .f32 w bitsLt_bf16_f32) (ix2 R l)
    = proj (fun R k => x (ix2 R k)) (fun k => g (ix1 k)) (fun k l => w (ix2 k l)) R l := by
  pointwise [proj, rms]

end Cert.Reference6Ideal.Proj
end
-- ==== Proof.Proj.FoxKv.lean ====
/- The keys and values the two forgetting attentions share: their kernel's result array is the reference's function of the arguments. -/
module

public import proofs.«01_k».proof.Proof.Proj.Gla
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Proj

open Cert.Kernel7Ideal Cert.Kernel7Ideal.Gen
open Idealize.ShloMosaic Idealize.ShloMosaic.TcCoe Idealize.SL.Sem
open Idealize.ShloMosaic.Pipeline (Dat)
open Cert.FfnMath Cert.ProjMath

variable (m : (ℓ : Loc nD τ sig) → Buf (Elt Ideal) ℓ)

/-- The product of a tile's rows with a block of columns. -/
theorem pay2 (h : FVec Ideal S1024x2048 .bf16) (w : FVec Ideal S2048x1024 .bf16) (r : Fin 1024) (d : Fin 1024) :
    k0_pay2 (F := Ideal) h w (ix2 r d) = ∑ k, h (ix2 r k) * w (ix2 k d) := by
  pointwise [k0_pay2]

theorem ltN (t : Fin cfg0.N) : t.val < 96 := t.isLt

theorem idx : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

/-- The rows, the gain and the columns. -/
def argX (c : Dev nD) (R : Fin 32768) (k : Fin 2048) : EReal := m ((c : Thread nD τ).loc main_arg0) (ix2 R k)
def argG (c : Dev nD) (k : Fin 2048) : EReal := m ((c : Thread nD τ).loc main_arg1) (ix1 k)
def argW (c : Dev nD) (k : Fin 2048) (l : Fin 3072) : EReal := m ((c : Thread nD τ).loc main_arg2) (ix2 k l)

/-- Row `r` of tile `n`, and column `d` of a point's block. -/
def row (n : ℕ) (r : Fin 1024) : Fin 32768 := ⟨(n * 1024 + r.val) % 32768, by omega⟩
def col (t : Fin cfg0.N) (d : Fin 1024) : Fin 3072 := ⟨t.val % 3 * 1024 + d.val, by omega⟩

theorem b0 (c : Dev nD) (t : Fin cfg0.N) (r : Fin 1024) (k : Fin 2048) : iblk m c 0 t (ix2 r k) = argX m c (row (t.val / 3) r) k := by
  have hlt := ltN t
  have e : row (t.val / 3) r = ⟨t.val / 3 * 1024 + r.val, by omega⟩ := Fin.ext (Nat.mod_eq_of_lt (by omega))
  rw [e]
  unfold argX
  blk_point [iblk, V, idx t]
theorem b1 (c : Dev nD) (t : Fin cfg0.N) (k : Fin 2048) : iblk m c 1 t (ix2 0 k) = argG m c k := by
  unfold argG
  blk_point [iblk, V, idx t]
theorem b2 (c : Dev nD) (t : Fin cfg0.N) (k : Fin 2048) (d : Fin 1024) : iblk m c 2 t (ix2 k d) = argW m c k (col t d) := by
  unfold argW col
  blk_point [iblk, V, idx t]

/-- Every point finds, or stores, its row tile's normalized rows. -/
theorem kept (c : Dev nD) (r : Fin 1024) (k : Fin 2048) (n : ℕ) (h : n < cfg0.N) :
    (outsAt0 m c n h).2 (ix2 r k) = rms (argX m c (row (n / 3) r)) (argG m c) k := by
  refine carried (fun n h => (show EReal from (outsAt0 m c n h).2 (ix2 r k))) (fun q => rms (argX m c (row q r)) (argG m c) k) (fun n h h0 => ?_) (fun n h h0 => ?_) n h
  · have e := outsAt0_A m c ⟨n, h⟩ h0
    dsimp only at e ⊢
    rw [e]; frame_out
    refine (Cert.Kernel5Ideal.Proj.pay1 _ _ r k).trans ?_
    exact congrArg₂ (fun a b => rms a b k) (funext fun k => b0 m c ⟨n, h⟩ r k) (funext fun k => b1 m c ⟨n, h⟩ k)
  · have e := outsAt0_B m c ⟨n, h⟩ h0
    dsimp only at e ⊢
    rw [e]; rfl

/-- What a point stores. -/
theorem out_at (c : Dev nD) (t : Fin cfg0.N) (r : Fin 1024) (d : Fin 1024) :
    (outsAt0 m c t.val t.isLt).1 (ix2 r d) = proj (argX m c) (argG m c) (argW m c) (row (t.val / 3) r) (col t d) := by
  have hk := fun k => kept m c r k t.val t.isLt
  by_cases h0 : t.val % 3 = 0
  · rw [outsAt0_A m c t h0] at hk ⊢
    frame_out at hk
    frame_out
    refine (pay2 _ _ r d).trans ?_
    exact Finset.sum_congr rfl fun k _ => congrArg₂ (fun a b : EReal => a * b) (hk k) (b2 m c t k d)
  · have e : (outsAt0 m c t.val t.isLt).2 = (outsAt0 m c (t.val - 1) (by omega)).2 := by rw [outsAt0_B m c t h0]; rfl
    rw [e] at hk
    rw [outsAt0_B m c t h0]
    frame_out
    simp only [read_unread_whole]
    refine (pay2 _ _ r d).trans ?_
    exact Finset.sum_congr rfl fun k _ => congrArg₂ (fun a b : EReal => a * b) (hk k) (b2 m c t k d)

/-- The result array after the run, at one index. -/
theorem final (c : Dev nD) : (dats m 0 c).arrAt 3 (cfgs 0).N
    = (fun y => proj (argX m c) (argG m c) (argW m c) (y 0) (y 1) : S32768x3072.Idx → EReal) := by
  refine (dats m 0 c).arrAt_eq_of_covers 3 _ (by decide +kernel) fun t hf y => ?_
  blk_simp
  rw [after0_3]
  obtain ⟨r, d, rfl⟩ : ∃ r d, y = ix2 r d := ⟨y 0, y 1, eq_ix2 y⟩
  have hlt := ltN t
  have ey : ((cfg0.win 3).blk t).view.emb (ix2 r d) = (ix2 (row (t.val / 3) r) (col t d) : S32768x3072.Idx) := by
    have e : row (t.val / 3) r = ⟨t.val / 3 * 1024 + r.val, by omega⟩ := Fin.ext (Nat.mod_eq_of_lt (by omega))
    rw [e]
    unfold col
    blk_ext [idx t]
  rw [ey]
  exact out_at m c t r d

end Cert.Kernel7Ideal.Proj

namespace Cert.Reference7Ideal.Proj

open Cert.Reference7Ideal Cert.Reference7Ideal.Gen
open Idealize.ShloMosaic Idealize.ShloMosaic.TcCoe
open Cert.FfnMath Cert.ProjMath

/-- The reference's term at one index. -/
theorem ref_at (x : FVec Ideal S32768x2048 .f32) (g : FVec Ideal S2048 .f32) (w : FVec Ideal S2048x3072 .bf16) (R : Fin 32768) (l : Fin 3072) :
    truncf .bf16 (Host.dotGeneral dot_S32768x2048_S2048x3072_S32768x3072_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) (extf .f32 w bitsLt_bf16_f32)) bitsLt_bf16_f32 (ix2 R l)
    = proj (fun R k => x (ix2 R k)) (fun k => g (ix1 k)) (fun k l => w (ix2 k l)) R l := by
  pointwise [proj, rms]

end Cert.Reference7Ideal.Proj
end
-- ==== Proof.Mem.Ref.lean ====
/- The attention over the memory tokens: its plain function, and the reference's stages at one index. -/
module

public import proofs.«01_k».proof.Proof.Fox.Ref
public import proofs.«01_k».proof.Proof.Gen.Reference8Ideal.Run

@[expose] public section

set_option maxRecDepth 16384

noncomputable section

namespace Cert.MemMath

open Idealize.ShloMosaic
open Cert.FoxMath (scale)

/-- The scaled product of a query with key `k`. -/
def score (q : Fin 128 → EReal) (K : Fin 256 → Fin 128 → EReal) (k : Fin 256) : EReal := (∑ d, q d * K k d) * scale

/-- The values' mean under the softmax of the scores. -/
def soft (s v : Fin 256 → EReal) : EReal :=
  ∑ k, Ideal.div (Ideal.exp (s k - Finset.univ.fold max ⊥ s)) (∑ u, Ideal.exp (s u - Finset.univ.fold max ⊥ s)) * v k

/-- Row `k` of the memory of row `R`'s sequence. -/
def mrow (R : Fin 32768) (k : Fin 256) : Fin 2048 := ⟨256 * (R.val / 4096) + k.val, by omega⟩

/-- The column `d` of the head that column `l` lies in, from column `o` on. -/
def mcol {n : ℕ} (o : ℕ) (ho : o + 512 ≤ n) (l : Fin 512) (d : Fin 128) : Fin n := ⟨o + 128 * (l.val / 128) + d.val, by omega⟩

/-- The layer: queries in columns `oq` on of `n`, keys in columns `ok` on and values in the 512 columns after them. -/
def mem {n : ℕ} (oq : ℕ) (hq : oq + 512 ≤ n) (ok : ℕ) (hk : ok + 1024 ≤ 4096) (Z : Fin 32768 → Fin n → EReal) (KV : Fin 2048 → Fin 4096 → EReal)
    (R : Fin 32768) (l : Fin 512) : EReal :=
  soft (score (fun d => Z R (mcol oq hq l d)) fun k d => KV (mrow R k) (mcol ok (by omega) l d))
    fun k => KV (mrow R k) ⟨ok + 512 + l.val, by omega⟩

end Cert.MemMath

namespace Cert.Reference8Ideal.Mem

open Cert.Reference8Ideal Cert.Reference8Ideal.Gen Cert.Reference8Ideal.Value
open Idealize.ShloMosaic Idealize.ShloMosaic.TcCoe Idealize.SL.Sem
open Cert.FoxMath (scale neg_inf)
open Cert.MemMath
open Cert.ReferenceIdeal.Fox (rowmax)

/-- The rows' 512 columns as four heads of 128, heads before rows. -/
def qheads (x : FVec Ideal S32768x512 .f32) : FVec Ideal S8x4x4096x128 .f32 :=
  transpose S8x4x4096x128 [0, 2, 1, 3] (shapeCast _ x shapeCasts_S32768x512_S8x4096x4x128) transposes_S8x4096x4x128_S8x4x4096x128_0_2_1_3

/-- The same of the memory rows. -/
def mheads (x : FVec Ideal S2048x512 .f32) : FVec Ideal S8x4x256x128 .f32 :=
  transpose S8x4x256x128 [0, 2, 1, 3] (shapeCast _ x shapeCasts_S2048x512_S8x256x4x128) transposes_S8x256x4x128_S8x4x256x128_0_2_1_3

def scores (q : FVec Ideal S8x4x4096x128 .f32) (k : FVec Ideal S8x4x256x128 .f32) : FVec Ideal S8x4x4096x256 .f32 :=
  mulf (Host.dotGeneral dot_S8x4x4096x128_S8x4x256x128_S8x4x4096x256_3_3_2_2_01_01 none q k) (broadcastInDim S8x4x4096x256 ![] bcast_S_S8x4x4096x256 (constant S_ .f32 0x3DB504F3#32))

/-- Each row's largest score. -/
def tops (s : FVec Ideal S8x4x4096x256 .f32) : FVec Ideal S8x4x4096 .f32 :=
  maximumf (broadcastInDim S8x4x4096 ![] bcast_S_S8x4x4096 (constant S_ .f32 0xFF800000#32)) (Host.reduce FloatOps.maximumf s (constant S_ .f32 0xFF800000#32) reducesTo_S8x4x4096x256_S8x4x4096_d3 h_S_)

/-- The exponentials of the scores less their row's largest. -/
def exps (s : FVec Ideal S8x4x4096x256 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 (tops s))))

/-- Each exponential over its row's sum. -/
def probs (e : FVec Ideal S8x4x4096x256 .f32) : FVec Ideal S8x4x4096x256 .f32 :=
  Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_)))

/-- The values' mean, heads back beside each other. -/
def mixed (p : FVec Ideal S8x4x4096x256 .f32) (v : FVec Ideal S8x4x256x128 .f32) : FVec Ideal S32768x512 .bf16 :=
  truncf .bf16 (shapeCast _ (transpose S8x4096x4x128 [0, 2, 1, 3] (Host.dotGeneral dot_S8x4x4096x256_S8x4x256x128_S8x4x4096x128_3_2_2_3_01_01 none p v) transposes_S8x4x4096x128_S8x4096x4x128_0_2_1_3) shapeCasts_S8x4096x4x128_S32768x512) bitsLt_bf16_f32

/-- The heads' means put together, from the queries, the keys and the values. -/
def whole (q : FVec Ideal S32768x512 .f32) (k v : FVec Ideal S2048x512 .f32) : FVec Ideal S32768x512 .bf16 :=
  mixed (probs (exps (scores (qheads q) (mheads k)))) (mheads v)

/-- The reference's result as a function of its two arguments. -/
def REF (z : FVec Ideal S32768x2048 .f32) (kv : FVec Ideal S2048x4096 .bf16) : FVec Ideal S32768x512 .bf16 :=
  whole (extractStridedSlice S32768x512 ![0, 1536] z slices_S32768x2048_S32768x512_0_1536)
    (extf .f32 (extractStridedSlice S2048x512 ![0, 2048] kv slices_S2048x4096_S2048x512_0_2048) bitsLt_bf16_f32)
    (extf .f32 (extractStridedSlice S2048x512 ![0, 2560] kv slices_S2048x4096_S2048x512_0_2560) bitsLt_bf16_f32)

/-- The reference's run ends at that function of its arguments. -/
theorem res_eq (m : (ℓ : Loc nD τ sig) → Buf (Elt Ideal) ℓ) (c : Dev nD) :
    res_main_v28 m c = REF (m ((c.tc : Thread nD τ).loc main_arg0)) (m ((c.tc : Thread nD τ).loc main_arg1)) := by
  unfold res_main_v28; rfl

theorem qheads_at (x : FVec Ideal S32768x512 .f32) (b : Fin 8) (h : Fin 4) (s : Fin 4096) (d : Fin 128) :
    qheads x (ix4 b h s d) = x (ix2 ⟨4096 * b.val + s.val, by omega⟩ ⟨128 * h.val + d.val, by omega⟩) := by
  pointwise [qheads]
  congr 2 <;> (apply Fin.ext; simp only []; omega)

theorem mheads_at (x : FVec Ideal S2048x512 .f32) (b : Fin 8) (h : Fin 4) (s : Fin 256) (d : Fin 128) :
    mheads x (ix4 b h s d) = x (ix2 ⟨256 * b.val + s.val, by omega⟩ ⟨128 * h.val + d.val, by omega⟩) := by
  pointwise [mheads]
  congr 2 <;> (apply Fin.ext; simp only []; omega)

theorem scores_at (q : FVec Ideal S8x4x4096x128 .f32) (k : FVec Ideal S8x4x256x128 .f32) (b : Fin 8) (h : Fin 4) (t : Fin 4096) (s : Fin 256) :
    scores q k (ix4 b h t s) = (∑ d, q (ix4 b h t d) * k (ix4 b h s d)) * scale := by
  pointwise [scores]

theorem top_of (y : FVec Ideal S8x4x4096 .f32) (i : S8x4x4096.Idx) :
    maximumf (broadcastInDim S8x4x4096 ![] bcast_S_S8x4x4096 (constant S_ .f32 0xFF800000#32)) y i = y i := by
  show max (Ideal.ofBits .f32 0xFF800000#32) (y i) = y i
  rw [neg_inf, max_eq_right bot_le]

theorem tops_at (x : FVec Ideal S8x4x4096x256 .f32) (b : Fin 8) (h : Fin 4) (t : Fin 4096) :
    tops x (ix3 b h t) = Finset.univ.fold max ⊥ fun u => x (ix4 b h t u) := by
  unfold tops
  rw [top_of, rowmax x _ _ _ (by exact neg_inf)]

theorem exps_at (x : FVec Ideal S8x4x4096x256 .f32) (b : Fin 8) (h : Fin 4) (t : Fin 4096) (s : Fin 256) :
    exps x (ix4 b h t s) = Ideal.exp (x (ix4 b h t s) - Finset.univ.fold max ⊥ fun u => x (ix4 b h t u)) := by
  pointwise [exps]
  rw [tops_at]

theorem probs_at (x : FVec Ideal S8x4x4096x256 .f32) (b : Fin 8) (h : Fin 4) (t : Fin 4096) (s : Fin 256) :
    probs x (ix4 b h t s) = Ideal.div (x (ix4 b h t s)) (∑ u, x (ix4 b h t u)) := by
  pointwise [probs]

theorem mixed_at (p : FVec Ideal S8x4x4096x256 .f32) (v : FVec Ideal S8x4x256x128 .f32) (R : Fin 32768) (l : Fin 512) :
    mixed p v (ix2 R l) = ∑ s, p (ix4 ⟨R.val / 4096, by omega⟩ ⟨l.val / 128, by omega⟩ ⟨R.val % 4096, by omega⟩ s)
      * v (ix4 ⟨R.val / 4096, by omega⟩ ⟨l.val / 128, by omega⟩ s ⟨l.val % 128, by omega⟩) := by
  pointwise [mixed]

/-- The columns of the queries, and of the keys and values. -/
theorem queries_at (z : FVec Ideal S32768x2048 .f32) (R : Fin 32768) (l : Fin 512) :
    extractStridedSlice S32768x512 ![0, 1536] z slices_S32768x2048_S32768x512_0_1536 (ix2 R l) = z (ix2 R ⟨1536 + l.val, by omega⟩) := by
  pointwise
theorem keys_at (kv : FVec Ideal S2048x4096 .bf16) (R : Fin 2048) (l : Fin 512) :
    extf .f32 (extractStridedSlice S2048x512 ![0, 2048] kv slices_S2048x4096_S2048x512_0_2048) bitsLt_bf16_f32 (ix2 R l) = kv (ix2 R ⟨2048 + l.val, by omega⟩) := by
  pointwise
theorem values_at (kv : FVec Ideal S2048x4096 .bf16) (R : Fin 2048) (l : Fin 512) :
    extf .f32 (extractStridedSlice S2048x512 ![0, 2560] kv slices_S2048x4096_S2048x512_0_2560) bitsLt_bf16_f32 (ix2 R l) = kv (ix2 R ⟨2560 + l.val, by omega⟩) := by
  pointwise

/-- The whole at one index, when the three arrays are columns of `Z` and `KV`. -/
theorem whole_at {n : ℕ} (oq : ℕ) (hq : oq + 512 ≤ n) (ok : ℕ) (hk : ok + 1024 ≤ 4096) (Z : Fin 32768 → Fin n → EReal) (KV : Fin 2048 → Fin 4096 → EReal)
    (q : FVec Ideal S32768x512 .f32) (k v : FVec Ideal S2048x512 .f32)
    (eq : ∀ R l, q (ix2 R l) = Z R ⟨oq + l.val, by omega⟩) (ek : ∀ R l, k (ix2 R l) = KV R ⟨ok + l.val, by omega⟩)
    (ev : ∀ R l, v (ix2 R l) = KV R ⟨ok + 512 + l.val, by omega⟩) (R : Fin 32768) (l : Fin 512) :
    whole q k v (ix2 R l) = mem oq hq ok hk Z KV R l := by
  have hs : ∀ u, scores (qheads q) (mheads k) (ix4 ⟨R.val / 4096, by omega⟩ ⟨l.val / 128, by omega⟩ ⟨R.val % 4096, by omega⟩ u)
      = score (fun d => Z R (mcol oq hq l d)) (fun u d => KV (mrow R u) (mcol ok (by omega) l d)) u := by
    intro u
    rw [scores_at, score]
    congr 1
    refine Finset.sum_congr rfl fun d _ => ?_
    rw [qheads_at, mheads_at, eq, ek]
    have e1 : (⟨4096 * (R.val / 4096) + R.val % 4096, by omega⟩ : Fin 32768) = R := Fin.ext (by simp only []; omega)
    have e2 : (⟨oq + (128 * (l.val / 128) + d.val), by omega⟩ : Fin n) = mcol oq hq l d := Fin.ext (by simp only [mcol]; omega)
    have e3 : (⟨ok + (128 * (l.val / 128) + d.val), by omega⟩ : Fin 4096) = mcol ok (by omega) l d := Fin.ext (by simp only [mcol]; omega)
    rw [e1, e2, e3]
    rfl
  unfold whole
  rw [mixed_at, mem, soft]
  refine Finset.sum_congr rfl fun u _ => ?_
  rw [probs_at, mheads_at, ev]
  simp only [exps_at, hs]
  have e1 : (⟨ok + 512 + (128 * (l.val / 128) + l.val % 128), by omega⟩ : Fin 4096) = ⟨ok + 512 + l.val, by omega⟩ := Fin.ext (by simp only []; omega)
  rw [e1]
  rfl

theorem REF_at (z : FVec Ideal S32768x2048 .f32) (kv : FVec Ideal S2048x4096 .bf16) (R : Fin 32768) (l : Fin 512) :
    REF z kv (ix2 R l) = mem 1536 (by omega) 2048 (by omega) (fun R d => z (ix2 R d)) (fun R d => kv (ix2 R d)) R l :=
  whole_at 1536 _ 2048 _ (fun R d => z (ix2 R d)) (fun R d => kv (ix2 R d)) _ _ _ (queries_at z) (keys_at kv) (values_at kv) R l

end Cert.Reference8Ideal.Mem
end
-- ==== Proof.Mem.Final.lean ====
/- The attention over the memory tokens: the kernel's result array is the reference's function of the arguments. -/
module

public import proofs.«01_k».proof.Proof.Mem.Ref
public import proofs.«01_k».proof.Proof.Gen.Kernel8Ideal.Value
public import Idealize.ShloMosaic.Lib.Pipeline.ValueKit
public import Idealize.ShloMosaic.Lib.Pointwise

@[expose] public section

set_option maxRecDepth 16384

noncomputable section

namespace Cert.Kernel8Ideal.Mem

open Cert.Kernel8Ideal Cert.Kernel8Ideal.Gen
open Idealize.ShloMosaic Idealize.ShloMosaic.TcCoe Idealize.SL.Sem
open Idealize.ShloMosaic.Pipeline (Dat)
open Cert.FoxMath (scale neg_inf)
open Cert.MemMath

variable (m : (ℓ : Loc nD τ sig) → Buf (Elt Ideal) ℓ)

theorem pay6 (x : Vec Ideal S1024x128 .f32) (K : Vec Ideal S256x128 .bf16) (r : Fin 1024) (k : Fin 256) :
    k0_pay6 (F := Ideal) x K (ix2 r k) = score (fun d => x (ix2 r d)) (fun k d => K (ix2 k d)) k := by
  pointwise [k0_pay6, score]

theorem pay7 (x : Vec Ideal S1024x128 .f32) (K : Vec Ideal S256x128 .bf16) (r : Fin 1024) (k : Fin 256) :
    k0_pay7 (F := Ideal) x K (ix2 r k) = Finset.univ.fold max ⊥ (score (fun d => x (ix2 r d)) (fun k d => K (ix2 k d))) := by
  pointwise [k0_pay7]
  simp only [pay6, neg_inf]

/-- One head's stored columns. -/
def head (x : Vec Ideal S1024x128 .f32) (K V : Vec Ideal S256x128 .bf16) : FVec Ideal S1024x128 .bf16 :=
  k0_pay1 (F := Ideal) (k0_pay6 x K) (k0_pay7 x K) V

theorem head_at (x : Vec Ideal S1024x128 .f32) (K V : Vec Ideal S256x128 .bf16) (r : Fin 1024) (d : Fin 128) :
    head x K V (ix2 r d) = soft (score (fun d => x (ix2 r d)) (fun k d => K (ix2 k d))) (fun k => V (ix2 k d)) := by
  pointwise [head, k0_pay1, soft]
  simp only [pay6, pay7]

/-- The other heads' payloads are the same function. -/
theorem head2 (x : Vec Ideal S1024x128 .f32) (K V : Vec Ideal S256x128 .bf16) : k0_pay2 (F := Ideal) x K V = head x K V := rfl
theorem head4 (x : Vec Ideal S1024x128 .f32) (K V : Vec Ideal S256x128 .bf16) : k0_pay4 (F := Ideal) (k0_pay3 x K) V = head x K V := rfl
theorem head5 (x : Vec Ideal S1024x128 .f32) (K V : Vec Ideal S256x128 .bf16) : k0_pay5 (F := Ideal) x K V = head x K V := rfl
theorem head1 (x : Vec Ideal S1024x128 .f32) (K V : Vec Ideal S256x128 .bf16) :
    k0_pay1 (F := Ideal) (k0_pay6 x K) (k0_pay7 x K) V = head x K V := rfl

theorem lt32 (t : Fin cfg0.N) : t.val < 32 := t.isLt

theorem idx : ∀ t : Fin cfg0.N, win0_0.index t = ![t.val, 3] ∧ win0_1.index t = ![t.val / 4, 4]
    ∧ win0_2.index t = ![t.val / 4, 5] ∧ win0_3.index t = ![t.val, 0] :=
  (by decide +kernel : ∀ t : Fin grid0.N, _)

/-- The rows and the memory's keys and values. -/
def argZ (c : Dev nD) (R : Fin 32768) (k : Fin 2048) : EReal := m ((c : Thread nD τ).loc main_arg0) (ix2 R k)
def argM (c : Dev nD) (R : Fin 2048) (k : Fin 4096) : EReal := m ((c : Thread nD τ).loc main_arg1) (ix2 R k)

/-- Row `r` of a point's tile. -/
def row (t : Fin cfg0.N) (r : Fin 1024) : Fin 32768 := ⟨t.val * 1024 + r.val, by have := lt32 t; omega⟩

theorem b0 (c : Dev nD) (t : Fin cfg0.N) (r : Fin 1024) (l : Fin 512) : iblk m c 0 t (ix2 r l) = argZ m c (row t r) ⟨1536 + l.val, by omega⟩ := by
  have hlt := lt32 t
  unfold argZ row
  blk_point [iblk, V, idx t]
theorem b1 (c : Dev nD) (t : Fin cfg0.N) (r : Fin 1024) (k : Fin 256) (l : Fin 512) : iblk m c 1 t (ix2 k l) = argM m c (mrow (row t r) k) ⟨2048 + l.val, by omega⟩ := by
  have hlt := lt32 t
  have e : mrow (row t r) k = ⟨t.val / 4 * 256 + k.val, by omega⟩ := Fin.ext (by simp only [mrow, row]; omega)
  rw [e]
  unfold argM
  blk_point [iblk, V, idx t]
theorem b2 (c : Dev nD) (t : Fin cfg0.N) (r : Fin 1024) (k : Fin 256) (l : Fin 512) : iblk m c 2 t (ix2 k l) = argM m c (mrow (row t r) k) ⟨2560 + l.val, by omega⟩ := by
  have hlt := lt32 t
  have e : mrow (row t r) k = ⟨t.val / 4 * 256 + k.val, by omega⟩ := Fin.ext (by simp only [mrow, row]; omega)
  rw [e]
  unfold argM
  blk_point [iblk, V, idx t]

/-- One head's columns, read at columns `o` on of a point's blocks, are the layer's columns from `o` on. -/
theorem head_mem {n : ℕ} (oq : ℕ) (hq : oq + 512 ≤ n) (ok : ℕ) (hk : ok + 1024 ≤ 4096) (Z : Fin 32768 → Fin n → EReal) (KV : Fin 2048 → Fin 4096 → EReal)
    (R : Fin 32768) (o : ℕ) (ho : o % 128 = 0) (hx : o + 128 ≤ 512) (x : Vec Ideal S1024x128 .f32) (K V : Vec Ideal S256x128 .bf16)
    (r : Fin 1024) (d : Fin 128) (l : Fin 512) (hl : l.val = o + d.val)
    (ex : ∀ d, x (ix2 r d) = Z R ⟨oq + (o + d.val), by omega⟩)
    (eK : ∀ k d, K (ix2 k d) = KV (mrow R k) ⟨ok + (o + d.val), by omega⟩)
    (eV : ∀ k d, V (ix2 k d) = KV (mrow R k) ⟨ok + 512 + (o + d.val), by omega⟩) :
    head x K V (ix2 r d) = mem oq hq ok hk Z KV R l := by
  refine (head_at x K V r d).trans ?_
  unfold mem
  have h1 : (fun d => x (ix2 r d)) = fun d => Z R (mcol oq hq l d) := by
    funext d'
    refine (ex d').trans ?_
    congr 1; apply Fin.ext; simp only [mcol]; omega
  have h2 : (fun k d => K (ix2 k d)) = fun k d => KV (mrow R k) (mcol ok (by omega) l d) := by
    funext k d'
    refine (eK k d').trans ?_
    congr 1; apply Fin.ext; simp only [mcol]; omega
  have h3 : (fun k => V (ix2 k d)) = fun k => KV (mrow R k) ⟨ok + 512 + l.val, by omega⟩ := by
    funext k
    refine (eV k d).trans ?_
    congr 1; apply Fin.ext; simp only []; omega
  rw [h1, h2, h3]

/-- What a point stores. -/
theorem out_at (c : Dev nD) (t : Fin cfg0.N) (y : S1024x512.Idx) :
    out0_3 (iblk m c 0 t) (iblk m c 1 t) (iblk m c 2 t) y = mem 1536 (by omega) 2048 (by omega) (argZ m c) (argM m c) (row t (y 0)) (y 1) := by
  canon_tiles x h using cover0_3 _ _ _ _ y
  all_goals
    obtain ⟨r, d, rfl⟩ : ∃ r d, x = ix2 r d := ⟨x 0, x 1, eq_ix2 x⟩
    have e0 : y 0 = r := Fin.ext h0
    rw [e0]
  · rw [head1]
    refine head_mem 1536 (by omega) 2048 (by omega) (argZ m c) (argM m c) (row t r) 384 (by omega) (by omega) _ _ _ r d (y 1) h1 (fun d => ?_) (fun k d => ?_) (fun k d => ?_)
    · rw [← b0 m c t r ⟨384 + d.val, by omega⟩]; pointwise
    · rw [← b1 m c t r k ⟨384 + d.val, by omega⟩]; pointwise
    · rw [← b2 m c t r k ⟨384 + d.val, by omega⟩]; pointwise
  · rw [head5]
    refine head_mem 1536 (by omega) 2048 (by omega) (argZ m c) (argM m c) (row t r) 256 (by omega) (by omega) _ _ _ r d (y 1) h1 (fun d => ?_) (fun k d => ?_) (fun k d => ?_)
    · rw [← b0 m c t r ⟨256 + d.val, by omega⟩]; pointwise
    · rw [← b1 m c t r k ⟨256 + d.val, by omega⟩]; pointwise
    · rw [← b2 m c t r k ⟨256 + d.val, by omega⟩]; pointwise
  · rw [head4]
    refine head_mem 1536 (by omega) 2048 (by omega) (argZ m c) (argM m c) (row t r) 128 (by omega) (by omega) _ _ _ r d (y 1) h1 (fun d => ?_) (fun k d => ?_) (fun k d => ?_)
    · rw [← b0 m c t r ⟨128 + d.val, by omega⟩]; pointwise
    · rw [← b1 m c t r k ⟨128 + d.val, by omega⟩]; pointwise
    · rw [← b2 m c t r k ⟨128 + d.val, by omega⟩]; pointwise
  · rw [head2]
    refine head_mem 1536 (by omega) 2048 (by omega) (argZ m c) (argM m c) (row t r) 0 (by omega) (by omega) _ _ _ r d (y 1) (h1.trans (Nat.zero_add _).symm) (fun d => ?_) (fun k d => ?_) (fun k d => ?_)
    · rw [← b0 m c t r ⟨0 + d.val, by omega⟩]; pointwise
    · rw [← b1 m c t r k ⟨0 + d.val, by omega⟩]; pointwise
    · rw [← b2 m c t r k ⟨0 + d.val, by omega⟩]; pointwise

/-- The result array after the run. -/
theorem final (c : Dev nD) : (dats m 0 c).arrAt 3 (cfgs 0).N
    = Cert.Reference8Ideal.Mem.REF (m ((c : Thread nD τ).loc main_arg0)) (m ((c : Thread nD τ).loc main_arg1)) := by
  refine (dats m 0 c).arrAt_eq_of_covers 3 _ (by decide +kernel) fun t hf y => ?_
  blk_simp
  rw [after0_3]
  obtain ⟨r, l, rfl⟩ : ∃ r l, y = ix2 r l := ⟨y 0, y 1, eq_ix2 y⟩
  have hlt := lt32 t
  have ey : ((cfg0.win 3).blk t).view.emb (ix2 r l) = (ix2 (row t r) l : S32768x512.Idx) := by
    unfold row
    blk_ext [idx t]
  rw [ey]
  exact (out_at m c t (ix2 r l)).trans (Cert.Reference8Ideal.Mem.REF_at _ _ (row t r) l).symm

end Cert.Kernel8Ideal.Mem
end
-- ==== Proof.Mem.Wide.lean ====
/- The attention over the memory tokens where the queries lie in the wider array of the first layers: the kernel's result array is the reference's function of the arguments. -/
module

public import proofs.«01_k».proof.Proof.Mem.Final
public import proofs.«01_k».proof.Proof.Gen.Reference10Ideal.Run
public import proofs.«01_k».proof.Proof.Gen.Kernel10Ideal.Value
public import Idealize.ShloMosaic.Lib.Pipeline.ValueKit
public import Idealize.ShloMosaic.Lib.Pointwise

@[expose] public section

set_option maxRecDepth 16384

noncomputable section

namespace Cert.Reference10Ideal.Mem

open Cert.Reference10Ideal Cert.Reference10Ideal.Gen Cert.Reference10Ideal.Value
open Idealize.ShloMosaic Idealize.ShloMosaic.TcCoe Idealize.SL.Sem
open Cert.MemMath
open Cert.Reference8Ideal.Mem (whole whole_at)

/-- The reference's result as a function of its two arguments. -/
def REF (z : FVec Ideal S32768x5760 .f32) (kv : FVec Ideal S2048x4096 .bf16) : FVec Ideal S32768x512 .bf16 :=
  whole (extractStridedSlice S32768x512 ![0, 5120] z slices_S32768x5760_S32768x512_0_5120)
    (extf .f32 (extractStridedSlice S2048x512 ![0, 0] kv slices_S2048x4096_S2048x512_0_0) bitsLt_bf16_f32)
    (extf .f32 (extractStridedSlice S2048x512 ![0, 512] kv slices_S2048x4096_S2048x512_0_512) bitsLt_bf16_f32)

/-- The reference's run ends at that function of its arguments. -/
theorem res_eq (m : (ℓ : Loc nD τ sig) → Buf (Elt Ideal) ℓ) (c : Dev nD) :
    res_main_v28 m c = REF (m ((c.tc : Thread nD τ).loc main_arg0)) (m ((c.tc : Thread nD τ).loc main_arg1)) := by
  unfold res_main_v28; rfl

/-- The columns of the queries, of the keys and of the values. -/
theorem queries_at (z : FVec Ideal S32768x5760 .f32) (R : Fin 32768) (l : Fin 512) :
    extractStridedSlice S32768x512 ![0, 5120] z slices_S32768x5760_S32768x512_0_5120 (ix2 R l) = z (ix2 R ⟨5120 + l.val, by omega⟩) := by
  pointwise
theorem keys_at (kv : FVec Ideal S2048x4096 .bf16) (R : Fin 2048) (l : Fin 512) :
    extf .f32 (extractStridedSlice S2048x512 ![0, 0] kv slices_S2048x4096_S2048x512_0_0) bitsLt_bf16_f32 (ix2 R l) = kv (ix2 R ⟨0 + l.val, by omega⟩) := by
  have e : (⟨0 + l.val, by omega⟩ : Fin 4096) = ⟨l.val, by omega⟩ := Fin.ext (Nat.zero_add _)
  rw [e]
  pointwise
theorem values_at (kv : FVec Ideal S2048x4096 .bf16) (R : Fin 2048) (l : Fin 512) :
    extf .f32 (extractStridedSlice S2048x512 ![0, 512] kv slices_S2048x4096_S2048x512_0_512) bitsLt_bf16_f32 (ix2 R l) = kv (ix2 R ⟨0 + 512 + l.val, by omega⟩) := by
  pointwise

theorem REF_at (z : FVec Ideal S32768x5760 .f32) (kv : FVec Ideal S2048x4096 .bf16) (R : Fin 32768) (l : Fin 512) :
    REF z kv (ix2 R l) = mem 5120 (by omega) 0 (by omega) (fun R d => z (ix2 R d)) (fun R d => kv (ix2 R d)) R l :=
  whole_at 5120 _ 0 _ (fun R d => z (ix2 R d)) (fun R d => kv (ix2 R d)) _ _ _ (queries_at z) (keys_at kv) (values_at kv) R l

end Cert.Reference10Ideal.Mem

namespace Cert.Kernel10Ideal.Mem

open Cert.Kernel10Ideal Cert.Kernel10Ideal.Gen
open Idealize.ShloMosaic Idealize.ShloMosaic.TcCoe Idealize.SL.Sem
open Idealize.ShloMosaic.Pipeline (Dat)
open Cert.FoxMath (scale neg_inf)
open Cert.MemMath
open Cert.Kernel8Ideal.Mem (head head_mem)

variable (m : (ℓ : Loc nD τ sig) → Buf (Elt Ideal) ℓ)

/-- The heads' payloads are the same function. -/
theorem head2 (x : Vec Ideal S1024x128 .f32) (K V : Vec Ideal S256x128 .bf16) : k0_pay2 (F := Ideal) x K V = head x K V := rfl
theorem head4 (x : Vec Ideal S1024x128 .f32) (K V : Vec Ideal S256x128 .bf16) : k0_pay4 (F := Ideal) (k0_pay3 x K) V = head x K V := rfl
theorem head5 (x : Vec Ideal S1024x128 .f32) (K V : Vec Ideal S256x128 .bf16) : k0_pay5 (F := Ideal) x K V = head x K V := rfl
theorem head1 (x : Vec Ideal S1024x128 .f32) (K V : Vec Ideal S256x128 .bf16) :
    k0_pay1 (F := Ideal) (k0_pay6 x K) (k0_pay7 x K) V = head x K V := rfl

theorem lt32 (t : Fin cfg0.N) : t.val < 32 := t.isLt

theorem idx : ∀ t : Fin cfg0.N, win0_0.index t = ![t.val, 10] ∧ win0_1.index t = ![t.val / 4, 0]
    ∧ win0_2.index t = ![t.val / 4, 1] ∧ win0_3.index t = ![t.val, 0] :=
  (by decide +kernel : ∀ t : Fin grid0.N, _)

/-- The rows and the memory's keys and values. -/
def argZ (c : Dev nD) (R : Fin 32768) (k : Fin 5760) : EReal := m ((c : Thread nD τ).loc main_arg0) (ix2 R k)
def argM (c : Dev nD) (R : Fin 2048) (k : Fin 4096) : EReal := m ((c : Thread nD τ).loc main_arg1) (ix2 R k)

/-- Row `r` of a point's tile. -/
def row (t : Fin cfg0.N) (r : Fin 1024) : Fin 32768 := ⟨t.val * 1024 + r.val, by have := lt32 t; omega⟩

theorem b0 (c : Dev nD) (t : Fin cfg0.N) (r : Fin 1024) (l : Fin 512) : X0_0 m c t (ix2 r l) = argZ m c (row t r) ⟨5120 + l.val, by omega⟩ := by
  have hlt := lt32 t
  unfold argZ row X0_0 Pipeline.Window.fill
  rw [dif_pos (moved0_0 t _)]
  blk_point [iblk, V, idx t]
theorem b1 (c : Dev nD) (t : Fin cfg0.N) (r : Fin 1024) (k : Fin 256) (l : Fin 512) : iblk m c 1 t (ix2 k l) = argM m c (mrow (row t r) k) ⟨0 + l.val, by omega⟩ := by
  have hlt := lt32 t
  have e : mrow (row t r) k = ⟨t.val / 4 * 256 + k.val, by omega⟩ := Fin.ext (by simp only [mrow, row]; omega)
  rw [e]
  unfold argM
  blk_point [iblk, V, idx t]
theorem b2 (c : Dev nD) (t : Fin cfg0.N) (r : Fin 1024) (k : Fin 256) (l : Fin 512) : iblk m c 2 t (ix2 k l) = argM m c (mrow (row t r) k) ⟨0 + 512 + l.val, by omega⟩ := by
  have hlt := lt32 t
  have e : mrow (row t r) k = ⟨t.val / 4 * 256 + k.val, by omega⟩ := Fin.ext (by simp only [mrow, row]; omega)
  rw [e]
  unfold argM
  blk_point [iblk, V, idx t]

/-- What a point stores. -/
theorem out_at (c : Dev nD) (t : Fin cfg0.N) (y : S1024x512.Idx) :
    outsAt0 m c t y = mem 5120 (by omega) 0 (by omega) (argZ m c) (argM m c) (row t (y 0)) (y 1) := by
  unfold outsAt0
  frame_out
  canon_tiles x h using View.cover_of_tiledBy _ ![1024, 128] (by sl_kernel_rfl) y
  all_goals
    obtain ⟨r, d, rfl⟩ : ∃ r d, x = ix2 r d := ⟨x 0, x 1, eq_ix2 x⟩
    have e0 : y 0 = r := Fin.ext h0
    rw [e0]
  · rw [head1]
    refine head_mem 5120 (by omega) 0 (by omega) (argZ m c) (argM m c) (row t r) 384 (by omega) (by omega) _ _ _ r d (y 1) h1 (fun d => ?_) (fun k d => ?_) (fun k d => ?_)
    · rw [← b0 m c t r ⟨384 + d.val, by omega⟩]; pointwise
    · rw [← b1 m c t r k ⟨384 + d.val, by omega⟩]; pointwise
    · rw [← b2 m c t r k ⟨384 + d.val, by omega⟩]; pointwise
  · rw [head5]
    refine head_mem 5120 (by omega) 0 (by omega) (argZ m c) (argM m c) (row t r) 256 (by omega) (by omega) _ _ _ r d (y 1) h1 (fun d => ?_) (fun k d => ?_) (fun k d => ?_)
    · rw [← b0 m c t r ⟨256 + d.val, by omega⟩]; pointwise
    · rw [← b1 m c t r k ⟨256 + d.val, by omega⟩]; pointwise
    · rw [← b2 m c t r k ⟨256 + d.val, by omega⟩]; pointwise
  · rw [head4]
    refine head_mem 5120 (by omega) 0 (by omega) (argZ m c) (argM m c) (row t r) 128 (by omega) (by omega) _ _ _ r d (y 1) h1 (fun d => ?_) (fun k d => ?_) (fun k d => ?_)
    · rw [← b0 m c t r ⟨128 + d.val, by omega⟩]; pointwise
    · rw [← b1 m c t r k ⟨128 + d.val, by omega⟩]; pointwise
    · rw [← b2 m c t r k ⟨128 + d.val, by omega⟩]; pointwise
  · rw [head2]
    refine head_mem 5120 (by omega) 0 (by omega) (argZ m c) (argM m c) (row t r) 0 (by omega) (by omega) _ _ _ r d (y 1) (h1.trans (Nat.zero_add _).symm) (fun d => ?_) (fun k d => ?_) (fun k d => ?_)
    · rw [← b0 m c t r ⟨0 + d.val, by omega⟩]; pointwise
    · rw [← b1 m c t r k ⟨0 + d.val, by omega⟩]; pointwise
    · rw [← b2 m c t r k ⟨0 + d.val, by omega⟩]; pointwise

/-- The result array after the run. -/
theorem final (c : Dev nD) : (dats m 0 c).arrAt 3 (cfgs 0).N
    = Cert.Reference10Ideal.Mem.REF (m ((c : Thread nD τ).loc main_arg0)) (m ((c : Thread nD τ).loc main_arg1)) := by
  refine (dats m 0 c).arrAt_eq_of_covers 3 _ (by decide +kernel) fun t hf y => ?_
  blk_simp
  rw [after0_3]
  obtain ⟨r, l, rfl⟩ : ∃ r l, y = ix2 r l := ⟨y 0, y 1, eq_ix2 y⟩
  have hlt := lt32 t
  have ey : ((cfg0.win 3).blk t).view.emb (ix2 r l) = (ix2 (row t r) l : S32768x512.Idx) := by
    unfold row
    blk_ext [idx t]
  rw [ey]
  exact (out_at m c t (ix2 r l)).trans (Cert.Reference10Ideal.Mem.REF_at _ _ (row t r) l).symm

end Cert.Kernel10Ideal.Mem
end
-- ==== Proof.Proj.MemKv.lean ====
/- The memory's keys and values for all layers: their kernel's result array is the reference's function of the arguments. -/
module

public import proofs.«01_k».proof.Proof.Proj.Gla
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel9Ideal.Proj

open Cert.Kernel9Ideal Cert.Kernel9Ideal.Gen
open Idealize.ShloMosaic Idealize.ShloMosaic.TcCoe Idealize.SL.Sem
open Idealize.ShloMosaic.Pipeline (Dat)
open Cert.FfnMath Cert.ProjMath

variable (m : (ℓ : Loc nD τ sig) → Buf (Elt Ideal) ℓ)

/-- The product of a tile's rows with a block of columns. -/
theorem pay2 (h : FVec Ideal S1024x2048 .bf16) (w : FVec Ideal S2048x1024 .bf16) (r : Fin 1024) (d : Fin 1024) :
    k0_pay2 (F := Ideal) h w (ix2 r d) = ∑ k, h (ix2 r k) * w (ix2 k d) := by
  pointwise [k0_pay2]

theorem ltN (t : Fin cfg0.N) : t.val < 8 := t.isLt

theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The rows, the gain and the columns. -/
def argX (c : Dev nD) (R : Fin 2048) (k : Fin 2048) : EReal := m ((c : Thread nD τ).loc main_arg0) (ix2 R k)
def argG (c : Dev nD) (k : Fin 2048) : EReal := m ((c : Thread nD τ).loc main_arg1) (ix1 k)
def argW (c : Dev nD) (k : Fin 2048) (l : Fin 4096) : EReal := m ((c : Thread nD τ).loc main_arg2) (ix2 k l)

/-- Row `r` of tile `n`, and column `d` of a point's block. -/
def row (n : ℕ) (r : Fin 1024) : Fin 2048 := ⟨(n * 1024 + r.val) % 2048, by omega⟩
def col (t : Fin cfg0.N) (d : Fin 1024) : Fin 4096 := ⟨t.val % 4 * 1024 + d.val, by omega⟩

theorem b0 (c : Dev nD) (t : Fin cfg0.N) (r : Fin 1024) (k : Fin 2048) : iblk m c 0 t (ix2 r k) = argX m c (row (t.val / 4) r) k := by
  have hlt := ltN t
  have e : row (t.val / 4) r = ⟨t.val / 4 * 1024 + r.val, by omega⟩ := Fin.ext (Nat.mod_eq_of_lt (by omega))
  rw [e]
  unfold argX
  blk_point [iblk, V, idx t]
theorem b1 (c : Dev nD) (t : Fin cfg0.N) (k : Fin 2048) : iblk m c 1 t (ix2 0 k) = argG m c k := by
  unfold argG
  blk_point [iblk, V, idx t]
theorem b2 (c : Dev nD) (t : Fin cfg0.N) (k : Fin 2048) (d : Fin 1024) : iblk m c 2 t (ix2 k d) = argW m c k (col t d) := by
  unfold argW col
  blk_point [iblk, V, idx t]

/-- Every point finds, or stores, its row tile's normalized rows. -/
theorem kept (c : Dev nD) (r : Fin 1024) (k : Fin 2048) (n : ℕ) (h : n < cfg0.N) :
    (outsAt0 m c n h).2 (ix2 r k) = rms (argX m c (row (n / 4) r)) (argG m c) k := by
  refine carried (fun n h => (show EReal from (outsAt0 m c n h).2 (ix2 r k))) (fun q => rms (argX m c (row q r)) (argG m c) k) (fun n h h0 => ?_) (fun n h h0 => ?_) n h
  · have e := outsAt0_A m c ⟨n, h⟩ h0
    dsimp only at e ⊢
    rw [e]; frame_out
    refine (Cert.Kernel5Ideal.Proj.pay1 _ _ r k).trans ?_
    exact congrArg₂ (fun a b => rms a b k) (funext fun k => b0 m c ⟨n, h⟩ r k) (funext fun k => b1 m c ⟨n, h⟩ k)
  · have e := outsAt0_B m c ⟨n, h⟩ h0
    dsimp only at e ⊢
    rw [e]; rfl

/-- What a point stores. -/
theorem out_at (c : Dev nD) (t : Fin cfg0.N) (r : Fin 1024) (d : Fin 1024) :
    (outsAt0 m c t.val t.isLt).1 (ix2 r d) = proj (argX m c) (argG m c) (argW m c) (row (t.val / 4) r) (col t d) := by
  have hk := fun k => kept m c r k t.val t.isLt
  by_cases h0 : t.val % 4 = 0
  · rw [outsAt0_A m c t h0] at hk ⊢
    frame_out at hk
    frame_out
    refine (pay2 _ _ r d).trans ?_
    exact Finset.sum_congr rfl fun k _ => congrArg₂ (fun a b : EReal => a * b) (hk k) (b2 m c t k d)
  · have e : (outsAt0 m c t.val t.isLt).2 = (outsAt0 m c (t.val - 1) (by omega)).2 := by rw [outsAt0_B m c t h0]; rfl
    rw [e] at hk
    rw [outsAt0_B m c t h0]
    frame_out
    simp only [read_unread_whole]
    refine (pay2 _ _ r d).trans ?_
    exact Finset.sum_congr rfl fun k _ => congrArg₂ (fun a b : EReal => a * b) (hk k) (b2 m c t k d)

/-- The result array after the run, at one index. -/
theorem final (c : Dev nD) : (dats m 0 c).arrAt 3 (cfgs 0).N
    = (fun y => proj (argX m c) (argG m c) (argW m c) (y 0) (y 1) : S2048x4096.Idx → EReal) := by
  refine (dats m 0 c).arrAt_eq_of_covers 3 _ (by decide +kernel) fun t hf y => ?_
  blk_simp
  rw [after0_3]
  obtain ⟨r, d, rfl⟩ : ∃ r d, y = ix2 r d := ⟨y 0, y 1, eq_ix2 y⟩
  have hlt := ltN t
  have ey : ((cfg0.win 3).blk t).view.emb (ix2 r d) = (ix2 (row (t.val / 4) r) (col t d) : S2048x4096.Idx) := by
    have e : row (t.val / 4) r = ⟨t.val / 4 * 1024 + r.val, by omega⟩ := Fin.ext (Nat.mod_eq_of_lt (by omega))
    rw [e]
    unfold col
    blk_ext [idx t]
  rw [ey]
  exact out_at m c t r d

end Cert.Kernel9Ideal.Proj

namespace Cert.Reference9Ideal.Proj

open Cert.Reference9Ideal Cert.Reference9Ideal.Gen
open Idealize.ShloMosaic Idealize.ShloMosaic.TcCoe
open Cert.FfnMath Cert.ProjMath

/-- The reference's term at one index. -/
theorem ref_at (x : FVec Ideal S2048x2048 .f32) (g : FVec Ideal S2048 .f32) (w : FVec Ideal S2048x4096 .bf16) (R : Fin 2048) (l : Fin 4096) :
    truncf .bf16 (Host.dotGeneral dot_S2048x2048_S2048x4096_S2048x4096_1_0_0_1_n_n none (mulf (mulf x (broadcastInDim S2048x2048 ![0, 1] bcast_S2048x1_S2048x2048_0_1 (Host.rsqrt (addf (Host.divf (broadcastInDim S2048x1 ![0] bcast_S2048_S2048x1_0 (Host.reduceAdd (mulf x x) (constant S_ .f32 0x00000000#32) reducesTo_S2048x2048_S2048_d1 h_S_)) (broadcastInDim S2048x1 ![] bcast_S_S2048x1 (constant S_ .f32 0x45000000#32))) (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 g))) (extf .f32 w bitsLt_bf16_f32)) bitsLt_bf16_f32 (ix2 R l)
    = proj (fun R k => x (ix2 R k)) (fun k => g (ix1 k)) (fun k l => w (ix2 k l)) R l := by
  pointwise [proj, rms]

end Cert.Reference9Ideal.Proj
end
-- ==== Proof.Gates.Math.lean ====
/- Running sums of log-sigmoid gates, free of either program: the kernel adds each gate in three parts, of which the last two are
   remainders that a real gate leaves at zero. -/
module

public import proofs.«01_k».proof.Proof.Ffn.Math
public import proofs.«01_k».proof.Proof.Fox.Math

@[expose] public section

set_option maxRecDepth 16384

noncomputable section

namespace Cert.GatesMath

open Idealize.ShloMosaic Idealize.ShloMosaic.TcCoe Idealize.SL.Sem
open Cert.FfnMath Cert.FoxMath

/-- The logarithm of the logistic function: the smaller of `z` and 0, less `log (1 + exp (-|z|))`. -/
def gate (z : EReal) : EReal := min z 0 - Ideal.log1p (Ideal.exp (0 - max z (-z)))

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem log1p_zero : Ideal.log1p 0 = 0 := by
  rw [Ideal.log1p, add_zero, ← EReal.coe_one, Ideal.log_coe]
  simp

/-- `log (1 + exp r)` is a real number for real `r`. -/
theorem log1p_exp (r : ℝ) : Ideal.log1p (Ideal.exp (r : EReal)) = ((Real.log (1 + Real.exp r) : ℝ) : EReal) := by
  have h : ¬ (1 + Real.exp r ≤ 0) := by have := Real.exp_pos r; linarith
  rw [Ideal.exp_coe, Ideal.log1p, ← EReal.coe_one, ← EReal.coe_add, Ideal.log_coe, if_neg h]

theorem gate_coe (r : ℝ) : gate (r : EReal) = ((min r 0 - Real.log (1 + Real.exp (-|r|)) : ℝ) : EReal) := by
  have h : (0 : EReal) - max (r : EReal) (-(r : EReal)) = ((-|r| : ℝ) : EReal) := by
    rw [← EReal.coe_neg, ← coe_max, ← EReal.coe_zero, ← EReal.coe_sub, zero_sub]; rfl
  rw [gate, h, log1p_exp, ← EReal.coe_zero, ← coe_min, ← EReal.coe_sub]

theorem gate_bot : gate ⊥ = ⊥ := by simp [gate, log1p_zero]
theorem gate_top : gate ⊤ = 0 := by simp [gate, log1p_zero]

/-- A gate is a real number or negative infinity. -/
theorem gate_ne_top (z : EReal) : gate z ≠ ⊤ := by
  induction z with
  | bot => rw [gate_bot]; simp
  | coe r => rw [gate_coe]; exact EReal.coe_ne_top _
  | top => rw [gate_top]; simp

/-- The reference's form: the negation of `max (-z) 0 + log (1 + exp (-|z|))`. -/
theorem gate_ref (z : EReal) : -(max (-z) 0 + Ideal.log1p (Ideal.exp (-(max (-z) (- -z))))) = gate z := by
  induction z with
  | bot => simp [gate_bot, log1p_zero]
  | coe r =>
    have h : -(max (-(r : EReal)) (- -(r : EReal))) = ((-|r| : ℝ) : EReal) := by
      rw [← EReal.coe_neg, ← EReal.coe_neg, ← coe_max, ← EReal.coe_neg, neg_neg, max_comm]; rfl
    rw [gate_coe, h, log1p_exp, ← EReal.coe_zero, ← EReal.coe_neg, ← coe_max, ← EReal.coe_add, ← EReal.coe_neg]
    congr 1
    rcases le_total r 0 with hr | hr
    · rw [max_eq_left (by linarith), min_eq_left hr]; ring
    · rw [max_eq_right (by linarith), min_eq_right hr]; ring
  | top => simp [gate_top, log1p_zero]

theorem isReal_coe (r : ℝ) : IsReal (r : EReal) := by rw [IsReal, EReal.toReal_coe]
theorem isReal_zero : IsReal 0 := by rw [IsReal, EReal.toReal_zero, EReal.coe_zero]
theorem isReal_mul {x y : EReal} (hx : IsReal x) (hy : IsReal y) : IsReal (x * y) := by
  rw [← hx, ← hy, ← EReal.coe_mul]; exact isReal_coe _
theorem sub_self_real {x : EReal} (hx : IsReal x) : x - x = 0 := by
  rw [← hx, ← EReal.coe_sub, _root_.sub_self, EReal.coe_zero]
theorem isReal_of_ne {x : EReal} (h1 : x ≠ ⊤) (h2 : x ≠ ⊥) : IsReal x := EReal.coe_toReal h1 h2

theorem size_word : Ideal.ofBits .f32 0x45000000#32 = ((2048 : ℝ) : EReal) := by
  simp only [Ideal.ofBits, Ideal.ieee]; simp [← EReal.coe_mul]; norm_num
theorem eps_word : ∃ e : ℝ, 0 < e ∧ Ideal.ofBits .f32 0x358637BD#32 = (e : EReal) := by
  simp only [Ideal.ofBits, Ideal.ieee]
  simp [← EReal.coe_mul]

/-- A square is not negative, and that of an infinity is infinite. -/
theorem sq_nonneg' (x : EReal) : 0 ≤ x * x := by
  induction x with
  | bot => simp
  | coe r => rw [← EReal.coe_mul]; exact EReal.coe_nonneg.mpr (mul_self_nonneg r)
  | top => simp

/-- A normalized row is real wherever its gain is, whatever the row: an infinite entry makes the factor zero. -/
theorem rms_real (x g : Fin 2048 → EReal) (d : Fin 2048) (hg : IsReal (g d)) : IsReal (rms x g d) := by
  obtain ⟨e, he, ee⟩ := eps_word
  rw [rms, size_word, ee, Ideal.div_coe (by norm_num)]
  refine isReal_mul ?_ hg
  by_cases h : ∀ k, IsReal (x k)
  · have h1 : ∑ k, x k * x k = ((∑ k, (x k).toReal * (x k).toReal : ℝ) : EReal) := by
      rw [coe_sum]
      exact Finset.sum_congr rfl fun k _ => by rw [EReal.coe_mul, h k]
    have h2 : 0 ≤ ∑ k, (x k).toReal * (x k).toReal := Finset.sum_nonneg fun k _ => mul_self_nonneg _
    rw [h1, ← EReal.coe_mul, ← EReal.coe_add, Ideal.rsqrt_coe, if_neg (by positivity |> not_lt.mpr), if_neg (by positivity)]
    exact isReal_mul (h d) (isReal_coe _)
  · obtain ⟨k, hk⟩ := not_forall.mp h
    have h1 : x k * x k = ⊤ := by
      have : x k = ⊤ ∨ x k = ⊥ := by
        by_contra hc
        exact hk (isReal_of_ne (fun e => hc (Or.inl e)) (fun e => hc (Or.inr e)))
      rcases this with e | e <;> rw [e] <;> simp
    have h2 : ∑ k, x k * x k = ⊤ :=
      top_le_iff.mp (h1 ▸ Finset.single_le_sum (f := fun k => x k * x k) (fun k _ => sq_nonneg' (x k)) (Finset.mem_univ k))
    rw [h2, EReal.top_mul_coe_of_pos (by norm_num), EReal.top_add_coe, Ideal.rsqrt_top, mul_zero]
    exact isReal_zero

/-- The rounded part's product plus the remainder's is the whole product where the numbers are real. -/
theorem dot_split (h w : Fin 2048 → EReal) (hh : ∀ k, IsReal (h k)) :
    ∑ k, h k * w k + ∑ k, (h k - h k) * w k = ∑ k, h k * w k := by
  have e : ∑ k, (h k - h k) * w k = 0 := Finset.sum_eq_zero fun k _ => by rw [sub_self_real (hh k), zero_mul]
  rw [e, add_zero]

/-- A sum with a term at negative infinity is at negative infinity. -/
theorem sum_bot {ι : Type} (S : Finset ι) (f : ι → EReal) (i : ι) (hi : i ∈ S) (h : f i = ⊥) : ∑ s ∈ S, f s = ⊥ := by
  classical
  rw [← Finset.add_sum_erase S f hi, h, EReal.bot_add]

/-- One tile's masked sums: the carried sum, plus the terms up to row `r`, plus their remainders. -/
theorem tile_sum (c : EReal) (v : ℕ → EReal) (hv : ∀ s, v s ≠ ⊤) (r : Fin 512) (w : Fin 512 → EReal)
    (hw : ∀ s : Fin 512, w s = if s.val ≤ r.val then 1 else 0) :
    c + ∑ s : Fin 512, w s * v s.val + ∑ s : Fin 512, w s * (v s.val - v s.val)
      + ∑ s : Fin 512, w s * ((v s.val - v s.val) - (v s.val - v s.val))
    = c + ∑ s ∈ Finset.range (r.val + 1), v s := by
  have key : ∀ f : ℕ → EReal, ∑ s : Fin 512, w s * f s.val = ∑ s ∈ Finset.range (r.val + 1), f s := fun f =>
    sum_block (by omega) f _ fun s => by
      rw [hw]
      by_cases h : s.val ≤ r.val
      · rw [if_pos h, if_pos (by omega), one_mul]
      · rw [if_neg h, if_neg (by omega), zero_mul]
  rw [key v, key (fun s => v s - v s), key (fun s => (v s - v s) - (v s - v s))]
  by_cases h : ∀ s ∈ Finset.range (r.val + 1), v s ≠ ⊥
  · have z : ∀ s ∈ Finset.range (r.val + 1), v s - v s = 0 := fun s hs => sub_self_real (isReal_of_ne (hv s) (h s hs))
    have z2 : ∀ s ∈ Finset.range (r.val + 1), (v s - v s) - (v s - v s) = 0 := fun s hs => by rw [z s hs, sub_zero]
    rw [Finset.sum_eq_zero z, Finset.sum_eq_zero z2, add_zero, add_zero]
  · obtain ⟨s, hs⟩ := not_forall.mp h
    obtain ⟨hm, hs⟩ := Classical.not_imp.mp hs
    rw [sum_bot _ v s hm (not_not.mp hs), EReal.add_bot, EReal.bot_add, EReal.bot_add]

/-- What starts at zero at the multiples of 8 and adds a tile's 512 terms at each point is the sum of the sequence so far. -/
theorem carried_sum {N : ℕ} (S : (n : ℕ) → n < N → EReal) (v : ℕ → EReal)
    (hA : ∀ n h, n % 8 = 0 → S n h = 0 + ∑ s ∈ Finset.range 512, v (512 * n + s))
    (hB : ∀ n (h : n < N) (h0 : ¬ n % 8 = 0), S n h = S (n - 1) (by omega) + ∑ s ∈ Finset.range 512, v (512 * n + s))
    (n : ℕ) (h : n < N) : S n h = ∑ s ∈ Finset.range (512 * (n % 8) + 512), v (4096 * (n / 8) + s) := by
  have part : ∀ n : ℕ, ∀ s, v (512 * n + s) = v (4096 * (n / 8) + (512 * (n % 8) + s)) := fun n s => congrArg v (by omega)
  have first : ∀ n h, n % 8 = 0 → S n h = ∑ s ∈ Finset.range (512 * (n % 8) + 512), v (4096 * (n / 8) + s) := fun n h h0 => by
    rw [hA n h h0, zero_add, Finset.sum_congr rfl fun s _ => part n s, h0]
    simp only [Nat.mul_zero, Nat.zero_add]
  induction n with
  | zero => exact first 0 h rfl
  | succ n ih =>
    by_cases h0 : (n + 1) % 8 = 0
    · exact first _ h h0
    · rw [hB _ h h0, Finset.sum_range_add, Finset.sum_congr rfl fun s _ => part (n + 1) s]
      have e1 : 512 * ((n + 1) % 8) = 512 * (n % 8) + 512 := by omega
      have e2 : (n + 1) / 8 = n / 8 := by omega
      rw [e1, e2]
      exact congrArg (· + _) (ih (by omega))

/-- The gate of row `n` (counted over all sequences) and head `l`. -/
def gateAt (X : Fin 32768 → Fin 2048 → EReal) (g : Fin 2048 → EReal) (W : Fin 2048 → Fin 128 → EReal) (b : Fin 128 → EReal) (l : Fin 128) (n : ℕ) : EReal :=
  gate (∑ k, rms (X ⟨n % 32768, Nat.mod_lt _ (by norm_num)⟩) g k * W k l + b l)

/-- The result: for each sequence and head, the sum of the gates up to each row. -/
def gates (X : Fin 32768 → Fin 2048 → EReal) (g : Fin 2048 → EReal) (W : Fin 2048 → Fin 128 → EReal) (b : Fin 128 → EReal)
    (B : Fin 8) (h : Fin 16) (t : Fin 4096) : EReal :=
  ∑ s ∈ Finset.range (t.val + 1), gateAt X g W b ⟨h.val, by omega⟩ (4096 * B.val + s)

end Cert.GatesMath
end
-- ==== Proof.Gates.Final.lean ====
/- The cumulative gates: the kernel's result array is the sum of the gates up to each row. -/
module

public import proofs.«01_k».proof.Proof.Gates.Math
public import proofs.«01_k».proof.Proof.Gen.Kernel11Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Gates

open Cert.Kernel11Ideal Cert.Kernel11Ideal.Gen
open Idealize.ShloMosaic Idealize.ShloMosaic.TcCoe Idealize.SL.Sem
open Idealize.ShloMosaic.Pipeline (Dat)
open Cert.FfnMath Cert.FoxMath Cert.GatesMath

variable (m : (ℓ : Loc nD τ sig) → Buf (Elt Ideal) ℓ)

/-- A tile's gates. -/
theorem pay5 (x : FVec Ideal S512x2048 .f32) (g : FVec Ideal S1x2048 .f32) (w : FVec Ideal S2048x128 .bf16) (b : FVec Ideal S1x128 .f32) (r : Fin 512) (l : Fin 128) :
    k0_pay5 (F := Ideal) x g w b (ix2 r l)
      = gate (∑ k, rms (fun k => x (ix2 r k)) (fun k => g (ix2 0 k)) k * w (ix2 k l)
          + ∑ k, (rms (fun k => x (ix2 r k)) (fun k => g (ix2 0 k)) k - rms (fun k => x (ix2 r k)) (fun k => g (ix2 0 k)) k) * w (ix2 k l) + b (ix2 0 l)) := by
  pointwise [k0_pay5, gate, rms]
  rfl

/-- The mask: the columns up to the row. -/
theorem pay6 (r s : Fin 512) (x y : EReal) : Scalar.select (k0_pay6 (ix2 r s)) x y = if s.val ≤ r.val then x else y := by
  pointwise [k0_pay6]
  exact select_le (by omega) (by omega) x y

/-- The running sum within a tile. -/
theorem pay1 (f : FVec Ideal S512x128 .f32) (c : FVec Ideal S1x128 .f32) (r : Fin 512) (l : Fin 128) :
    k0_pay1 (F := Ideal) f k0_pay6 c (ix2 r l)
      = c (ix2 0 l) + ∑ s : Fin 512, (Scalar.select (k0_pay6 (ix2 r s)) 1 0 : EReal) * f (ix2 s l)
        + ∑ s : Fin 512, (Scalar.select (k0_pay6 (ix2 r s)) 1 0 : EReal) * (f (ix2 s l) - f (ix2 s l))
        + ∑ s : Fin 512, (Scalar.select (k0_pay6 (ix2 r s)) 1 0 : EReal) * ((f (ix2 s l) - f (ix2 s l)) - (f (ix2 s l) - f (ix2 s l))) := by
  pointwise [k0_pay1]

theorem pay2 (f : FVec Ideal S512x128 .f32) (c : FVec Ideal S1x128 .f32) (l : Fin 128) :
    k0_pay2 (F := Ideal) f k0_pay6 c (ix2 0 l) = k0_pay1 (F := Ideal) f k0_pay6 c (ix2 511 l) := by
  pointwise [k0_pay2]

theorem pay3 (f : FVec Ideal S512x128 .f32) (c : FVec Ideal S1x128 .f32) (h : Fin 16) (r : Fin 512) :
    k0_pay3 (F := Ideal) f k0_pay6 c (ix3 0 h r) = k0_pay1 (F := Ideal) f k0_pay6 c (ix2 r ⟨h.val, by omega⟩) := by
  pointwise [k0_pay3]

theorem pay4 (l : Fin 128) : k0_pay4 (F := Ideal) (ix2 0 l) = (0 : EReal) := by
  pointwise [k0_pay4]

theorem ltN (t : Fin cfg0.N) : t.val < 64 := t.isLt

theorem idx : ∀ t : Fin cfg0.N, win0_0.index t = ![t.val, 0] ∧ win0_1.index t = ![0, 0]
    ∧ win0_2.index t = ![0, 0] ∧ win0_3.index t = ![0, 0] ∧ win0_4.index t = ![t.val / 8, 0, t.val % 8] :=
  (by decide +kernel : ∀ t : Fin grid0.N, _)

/-- The rows, the gain, the columns and the bias. -/
def argX (c : Dev nD) (R : Fin 32768) (k : Fin 2048) : EReal := m ((c : Thread nD τ).loc main_arg0) (ix2 R k)
def argG (c : Dev nD) (k : Fin 2048) : EReal := m ((c : Thread nD τ).loc main_arg1) (ix1 k)
def argW (c : Dev nD) (k : Fin 2048) (l : Fin 128) : EReal := m ((c : Thread nD τ).loc main_arg2) (ix2 k l)
def argB (c : Dev nD) (l : Fin 128) : EReal := m ((c : Thread nD τ).loc main_arg3) (ix2 0 l)

/-- Row `n`, counted over all sequences. -/
def row (n : ℕ) : Fin 32768 := ⟨n % 32768, Nat.mod_lt _ (by norm_num)⟩

theorem b0 (c : Dev nD) (t : Fin cfg0.N) (r : Fin 512) (k : Fin 2048) : iblk m c 0 t (ix2 r k) = argX m c (row (512 * t.val + r.val)) k := by
  have hlt := ltN t
  have e : row (512 * t.val + r.val) = ⟨512 * t.val + r.val, by omega⟩ := Fin.ext (Nat.mod_eq_of_lt (by omega))
  rw [e]
  unfold argX
  blk_point [iblk, V, idx t]
theorem b1 (c : Dev nD) (t : Fin cfg0.N) (k : Fin 2048) : iblk m c 1 t (ix2 0 k) = argG m c k := by
  unfold argG
  blk_point [iblk, V, idx t]
theorem b2 (c : Dev nD) (t : Fin cfg0.N) (k : Fin 2048) (l : Fin 128) : iblk m c 2 t (ix2 k l) = argW m c k l := by
  unfold argW
  blk_point [iblk, V, idx t]
theorem b3 (c : Dev nD) (t : Fin cfg0.N) (l : Fin 128) : iblk m c 3 t (ix2 0 l) = argB m c l := by
  unfold argB
  blk_point [iblk, V, idx t]

/-- The gate of row `n` and head `l`, of the arguments. -/
def fg (c : Dev nD) (l : Fin 128) (n : ℕ) : EReal := gateAt (argX m c) (argG m c) (argW m c) (argB m c) l n

/-- A point's gates, where the gain is real. -/
theorem f_at (c : Dev nD) (hg : ∀ k, IsReal (argG m c k)) (t : Fin cfg0.N) (s : Fin 512) (l : Fin 128) :
    k0_pay5 (F := Ideal) (iblk m c 0 t) (iblk m c 1 t) (iblk m c 2 t) (iblk m c 3 t) (ix2 s l) = fg m c l (512 * t.val + s.val) := by
  refine (pay5 _ _ _ _ s l).trans ?_
  rw [show (fun k => iblk m c 0 t (ix2 s k)) = argX m c (row (512 * t.val + s.val)) from funext fun k => b0 m c t s k,
    show (fun k => iblk m c 1 t (ix2 0 k)) = argG m c from funext fun k => b1 m c t k, dot_split _ _ fun k => rms_real _ _ k (hg k), b3 m c t l]
  exact congrArg (fun z => gate (z + argB m c l)) (Finset.sum_congr rfl fun k _ => congrArg (rms (argX m c (row (512 * t.val + s.val))) (argG m c) k * ·) (b2 m c t k l))

/-- A point's running sums: the carried sum plus its own gates up to the row. -/
theorem sum_at (c : Dev nD) (hg : ∀ k, IsReal (argG m c k)) (t : Fin cfg0.N) (a : FVec Ideal S1x128 .f32) (r : Fin 512) (l : Fin 128) :
    k0_pay1 (F := Ideal) (k0_pay5 (F := Ideal) (iblk m c 0 t) (iblk m c 1 t) (iblk m c 2 t) (iblk m c 3 t)) k0_pay6 a (ix2 r l)
      = a (ix2 0 l) + ∑ s ∈ Finset.range (r.val + 1), fg m c l (512 * t.val + s) := by
  refine (pay1 _ a r l).trans ?_
  simp only [f_at m c hg t]
  exact tile_sum _ (fun s => fg m c l (512 * t.val + s)) (fun s => gate_ne_top _) r _ fun s => pay6 r s 1 0

/-- Every point leaves the sum of its sequence's gates so far. -/
theorem kept (c : Dev nD) (hg : ∀ k, IsReal (argG m c k)) (l : Fin 128) (n : ℕ) (h : n < cfg0.N) :
    (outsAt0 m c n h).2 (ix2 0 l) = ∑ s ∈ Finset.range (512 * (n % 8) + 512), fg m c l (4096 * (n / 8) + s) := by
  refine carried_sum (fun n h => (show EReal from (outsAt0 m c n h).2 (ix2 0 l))) (fg m c l) (fun n h h0 => ?_) (fun n h h0 => ?_) n h
  · have e := outsAt0_A m c ⟨n, h⟩ h0
    dsimp only at e ⊢
    rw [e]; frame_out
    refine (pay2 _ _ l).trans ((sum_at m c hg ⟨n, h⟩ _ 511 l).trans ?_)
    exact congrArg (· + _) (pay4 l)
  · have e := outsAt0_B m c ⟨n, h⟩ h0
    dsimp only at e ⊢
    rw [e]; frame_out
    simp only [read_unread_whole]
    exact (pay2 _ _ l).trans (sum_at m c hg ⟨n, h⟩ _ 511 l)

/-- What a point stores. -/
theorem out_at (c : Dev nD) (hg : ∀ k, IsReal (argG m c k)) (t : Fin cfg0.N) (h : Fin 16) (r : Fin 512) :
    (outsAt0 m c t.val t.isLt).1 (ix3 0 h r)
      = ∑ s ∈ Finset.range (512 * (t.val % 8) + r.val + 1), fg m c ⟨h.val, by omega⟩ (4096 * (t.val / 8) + s) := by
  have own : ∀ s, fg m c ⟨h.val, by omega⟩ (512 * t.val + s) = fg m c ⟨h.val, by omega⟩ (4096 * (t.val / 8) + (512 * (t.val % 8) + s)) := fun s => congrArg _ (by omega)
  by_cases h0 : t.val % 8 = 0
  · rw [outsAt0_A m c t h0]
    frame_out
    refine (pay3 _ _ h r).trans ((sum_at m c hg t _ r _).trans ?_)
    rw [Finset.sum_congr rfl fun s _ => own s, h0]
    refine (congrArg (· + _) (pay4 _)).trans ((zero_add _).trans ?_)
    simp only [Nat.mul_zero, Nat.zero_add]
  · rw [outsAt0_B m c t h0]
    frame_out
    simp only [read_unread_whole]
    refine (pay3 _ _ h r).trans ((sum_at m c hg t _ r _).trans ?_)
    rw [kept m c hg, Finset.sum_congr rfl fun s _ => own s]
    have e1 : 512 * ((t.val - 1) % 8) + 512 = 512 * (t.val % 8) := by omega
    have e2 : (t.val - 1) / 8 = t.val / 8 := by omega
    rw [e1, e2, Nat.add_assoc]
    exact (Finset.sum_range_add _ _ _).symm

/-- The result array after the run, at one index. -/
theorem final (c : Dev nD) (hg : ∀ k, IsReal (argG m c k)) : (dats m 0 c).arrAt 4 (cfgs 0).N
    = (fun y => gates (argX m c) (argG m c) (argW m c) (argB m c) (y 0) (y 1) (y 2) : S8x16x4096.Idx → EReal) := by
  refine (dats m 0 c).arrAt_eq_of_covers 4 _ (by decide +kernel) fun t hf y => ?_
  blk_simp
  rw [after0_4]
  obtain ⟨z, h, r, rfl⟩ : ∃ z h r, y = ix3 z h r := ⟨y 0, y 1, y 2, eq_ix3 y⟩
  obtain rfl : z = 0 := Subsingleton.elim (α := Fin 1) _ _
  have hlt := ltN t
  have ey : ((cfg0.win 4).blk t).view.emb (ix3 0 h r) = (ix3 ⟨t.val / 8, by omega⟩ h ⟨t.val % 8 * 512 + r.val, by omega⟩ : S8x16x4096.Idx) := by
    blk_ext [idx t]
  rw [ey]
  refine (out_at m c hg t h r).trans ?_
  show _ = ∑ s ∈ Finset.range (t.val % 8 * 512 + r.val + 1), fg m c ⟨h.val, by omega⟩ (4096 * (t.val / 8) + s)
  rw [Nat.mul_comm 512]

end Cert.Kernel11Ideal.Gates
end
-- ==== Proof.Gates.Ref.lean ====
/- The reference of the cumulative gates: its term is the sum of the gates up to each row. -/
module

public import proofs.«01_k».proof.Proof.Gates.Math
public import proofs.«01_k».proof.Proof.Gen.Reference11Ideal.Run
public import Idealize.ShloMosaic.Lib.Pointwise

@[expose] public section

set_option maxRecDepth 16384

noncomputable section

namespace Cert.Reference11Ideal.Gates

open Cert.Reference11Ideal Cert.Reference11Ideal.Gen
open Idealize.ShloMosaic Idealize.ShloMosaic.TcCoe
open Cert.FfnMath Cert.FoxMath Cert.GatesMath

/-- A left fold that adds a term at each position is the sum of the terms. -/
theorem foldl_add {N : ℕ} (f : Fin N → EReal) (c : EReal) : (List.finRange N).foldl (fun r n => r + f n) c = c + ∑ n, f n := by
  have h : ∀ (l : List (Fin N)) (c : EReal), l.foldl (fun r n => r + f n) c = c + (l.map f).sum := by
    intro l
    induction l with
    | nil => intro c; simp
    | cons a l ih => intro c; rw [List.foldl_cons, ih, List.map_cons, List.sum_cons, add_assoc]
  rw [h, Fin.sum_univ_def]

/-- A window of one column of 4096 rows. -/
abbrev win : Shape := ⟨3, ![1, 4096, 1]⟩

/-- Its places, by their row. -/
def winRow : win.Idx ≃ Fin 4096 where
  toFun i := i 1
  invFun n := ix3 0 n 0
  left_inv i := by
    refine (congrArg₂ (fun a b => ix3 a (i 1) b) ?_ ?_).trans (ix3_eta i)
    · exact Subsingleton.elim (α := Fin 1) _ _
    · exact Subsingleton.elim (α := Fin 1) _ _
  right_inv n := rfl

/-- Of a window that ends at row `t`, the positions before the first row count for nothing. -/
theorem sum_window (u : ℕ → EReal) (t : Fin 4096) :
    ∑ n : Fin 4096, (if 4095 ≤ t.val + n.val then u (t.val + n.val - 4095) else 0) = ∑ s ∈ Finset.range (t.val + 1), u s := by
  obtain ⟨t, ht⟩ := t
  have e : 4096 = (4095 - t) + (t + 1) := by omega
  refine (Fin.sum_univ_eq_sum_range (fun n => if 4095 ≤ t + n then u (t + n - 4095) else 0) 4096).trans ?_
  rw [congrArg Finset.range e, Finset.sum_range_add, Finset.sum_eq_zero fun n hn => ?_, zero_add]
  · refine Finset.sum_congr rfl fun s _ => ?_
    rw [if_pos (by omega)]
    exact congrArg u (by omega)
  · have := Finset.mem_range.mp hn
    exact if_neg (by omega)

/-- The running sum along the rows, at one index. -/
theorem cumsum_at (v : FVec Ideal S8x4096x16 .f32) (init : FVec Ideal S_ .f32) (hi : init ix0 = (0 : EReal)) (B : Fin 8) (t : Fin 4096) (h : Fin 16)
    (u : ℕ → EReal) (hu : ∀ s : Fin 4096, v (ix3 B s h) = u s.val) :
    Host.reduceWindowAdd ![1, 4096, 1] ![1, 1, 1] ![0, 4095, 0] ![0, 0, 0] v init reduceWindows_S8x4096x16_S8x4096x16_w1s1p0_0_w4096s1p4095_0_w1s1p0_0 h_S_ (ix3 B t h)
      = ∑ s ∈ Finset.range (t.val + 1), u s := by
  have hv : init (Shape.Idx.first h_S_) = (0 : EReal) := (congrArg init (funext fun a => a.elim0)).trans hi
  unfold Host.reduceWindowAdd
  rw [Ideal.hostReduceWindowAdd_def, hv]
  unfold Ideal.hostReduceWindowAdd Host.reduceWindow
  refine (foldl_add _ _).trans ?_
  rw [zero_add, ← sum_window u t]
  refine Fintype.sum_equiv ((win.rowMajor.symm).trans winRow) _ _ fun n => ?_
  show _ = if 4095 ≤ t.val + (win.rowMajor.symm n 1).val then u (t.val + (win.rowMajor.symm n 1).val - 4095) else 0
  have w0 : (win.rowMajor.symm n 0).val = 0 := Nat.lt_one_iff.mp (win.rowMajor.symm n 0).isLt
  have w2 : (win.rowMajor.symm n 2).val = 0 := Nat.lt_one_iff.mp (win.rowMajor.symm n 2).isLt
  split
  · next hin =>
    have h1 := hin 1
    change 4095 ≤ t.val * 1 + (win.rowMajor.symm n 1).val ∧ t.val * 1 + (win.rowMajor.symm n 1).val - 4095 < 4096 at h1
    rw [Nat.mul_one] at h1
    rw [if_pos h1.1]
    refine (congrArg v (funext fun a => Fin.ext ?_)).trans (hu ⟨_, h1.2⟩)
    match a with
    | ⟨0, _⟩ => show B.val * 1 + (win.rowMajor.symm n 0).val - 0 = B.val; rw [w0]; omega
    | ⟨1, _⟩ => show t.val * 1 + (win.rowMajor.symm n 1).val - 4095 = t.val + (win.rowMajor.symm n 1).val - 4095; rw [Nat.mul_one]
    | ⟨2, _⟩ => show h.val * 1 + (win.rowMajor.symm n 2).val - 0 = h.val; rw [w2]; omega
  · next hin =>
    have w1 : (win.rowMajor.symm n 1).val < 4096 := (win.rowMajor.symm n 1).isLt
    rw [if_neg fun hle => hin fun a => by
      match a with
      | ⟨0, _⟩ => show 0 ≤ B.val * 1 + (win.rowMajor.symm n 0).val ∧ B.val * 1 + (win.rowMajor.symm n 0).val - 0 < 8; rw [w0]; omega
      | ⟨1, _⟩ => show 4095 ≤ t.val * 1 + (win.rowMajor.symm n 1).val ∧ t.val * 1 + (win.rowMajor.symm n 1).val - 4095 < 4096; rw [Nat.mul_one]; exact ⟨hle, by omega⟩
      | ⟨2, _⟩ => show 0 ≤ h.val * 1 + (win.rowMajor.symm n 2).val ∧ h.val * 1 + (win.rowMajor.symm n 2).val - 0 < 16; rw [w2]; omega]

/-- The projected rows' first sixteen columns plus the bias. -/
def logits (x : FVec Ideal S32768x2048 .f32) (g : FVec Ideal S2048 .f32) (w : FVec Ideal S2048x128 .bf16) (b : FVec Ideal S1x128 .f32) : FVec Ideal S8x4096x16 .f32 :=
  addf (shapeCast _ (extractStridedSlice S32768x16 ![0, 0] (Host.dotGeneral dot_S32768x2048_S2048x128_S32768x128_1_0_0_1_n_n none (mulf (mulf x (broadcastInDim S32768x2048 ![0, 1] bcast_S32768x1_S32768x2048_0_1 (Host.rsqrt (addf (Host.divf (broadcastInDim S32768x1 ![0] bcast_S32768_S32768x1_0 (Host.reduceAdd (mulf x x) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))) (extf .f32 w bitsLt_bf16_f32)) slices_S32768x128_S32768x16_0_0) shapeCasts_S32768x16_S8x4096x16)
    (broadcastInDim S8x4096x16 ![0, 1, 2] bcast_S1x1x16_S8x4096x16_0_1_2 (broadcastInDim S1x1x16 ![2] bcast_S16_S1x1x16_2 (shapeCast _ (extractStridedSlice S1x16 ![0, 0] b slices_S1x128_S1x16_0_0) shapeCasts_S1x16_S16)))

/-- The logarithms of the logistic function of `z`. -/
def logs (z : FVec Ideal S8x4096x16 .f32) : FVec Ideal S8x4096x16 .f32 :=
  Host.negf (select (cmpf .une (subf (Host.negf z) (broadcastInDim S8x4096x16 ![] bcast_S_S8x4096x16 (constant S_ .f32 0x00000000#32))) (subf (Host.negf z) (broadcastInDim S8x4096x16 ![] bcast_S_S8x4096x16 (constant S_ .f32 0x00000000#32))))
    (addf (Host.negf z) (broadcastInDim S8x4096x16 ![] bcast_S_S8x4096x16 (constant S_ .f32 0x00000000#32)))
    (addf (maximumf (Host.negf z) (broadcastInDim S8x4096x16 ![] bcast_S_S8x4096x16 (constant S_ .f32 0x00000000#32))) (Host.log1p (Host.exp (Host.negf (Host.absf (subf (Host.negf z) (broadcastInDim S8x4096x16 ![] bcast_S_S8x4096x16 (constant S_ .f32 0x00000000#32)))))))))

/-- The reference's term is their running sum, heads before rows. -/
theorem res_split (m : (ℓ : Loc nD τ sig) → Buf (Elt Ideal) ℓ) (c : Dev nD) :
    Value.res_main_v24 m c = transpose S8x16x4096 [0, 2, 1] (Host.reduceWindowAdd ![1, 4096, 1] ![1, 1, 1] ![0, 4095, 0] ![0, 0, 0] (logs (logits (m ((c : Thread nD τ).loc main_arg0)) (m ((c : Thread nD τ).loc main_arg1)) (m ((c : Thread nD τ).loc main_arg2)) (m ((c : Thread nD τ).loc main_arg3))))
      (broadcastInDim S_ ![] bcast_S_S_ (constant (F := Ideal) S_ .f32 0x00000000#32)) reduceWindows_S8x4096x16_S8x4096x16_w1s1p0_0_w4096s1p4095_0_w1s1p0_0 h_S_) transposes_S8x4096x16_S8x16x4096_0_2_1 := rfl

theorem logs_at (z : FVec Ideal S8x4096x16 .f32) (B : Fin 8) (s : Fin 4096) (h : Fin 16) : logs z (ix3 B s h) = gate (z (ix3 B s h)) := by
  pointwise [logs]
  rw [if_neg (not_not.mpr rfl)]
  exact gate_ref _

theorem logits_at (x : FVec Ideal S32768x2048 .f32) (g : FVec Ideal S2048 .f32) (w : FVec Ideal S2048x128 .bf16) (b : FVec Ideal S1x128 .f32) (B : Fin 8) (s : Fin 4096) (h : Fin 16) :
    logits x g w b (ix3 B s h)
      = ∑ k, rms (fun k => x (ix2 ⟨(4096 * B.val + s.val) % 32768, Nat.mod_lt _ (by norm_num)⟩ k)) (fun k => g (ix1 k)) k * w (ix2 k ⟨h.val, by omega⟩) + b (ix2 0 ⟨h.val, by omega⟩) := by
  have e : (⟨(4096 * B.val + s.val) % 32768, Nat.mod_lt _ (by norm_num)⟩ : Fin 32768) = ⟨B.val * 4096 + s.val, by omega⟩ :=
    Fin.ext (by show (4096 * B.val + s.val) % 32768 = B.val * 4096 + s.val; omega)
  rw [e]
  pointwise [logits, rms]

/-- The reference's result at one index. -/
theorem res_at (m : (ℓ : Loc nD τ sig) → Buf (Elt Ideal) ℓ) (c : Dev nD) (B : Fin 8) (h : Fin 16) (t : Fin 4096) :
    Value.res_main_v24 m c (ix3 B h t)
      = gates (fun R k => m ((c : Thread nD τ).loc main_arg0) (ix2 R k)) (fun k => m ((c : Thread nD τ).loc main_arg1) (ix1 k))
          (fun k l => m ((c : Thread nD τ).loc main_arg2) (ix2 k l)) (fun l => m ((c : Thread nD τ).loc main_arg3) (ix2 0 l)) B h t := by
  rw [res_split]
  refine Eq.trans ?_ (cumsum_at (logs (logits (m ((c : Thread nD τ).loc main_arg0)) (m ((c : Thread nD τ).loc main_arg1)) (m ((c : Thread nD τ).loc main_arg2)) (m ((c : Thread nD τ).loc main_arg3)))) (broadcastInDim S_ ![] bcast_S_S_ (constant (F := Ideal) S_ .f32 0x00000000#32)) ?_ B t h _ fun s => ?_)
  · pointwise []
  · pointwise []
  · rw [logs_at, logits_at]
    rfl

/-- The reference runs to the gates of its arguments, and leaves the arguments as they are. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = (fun y : S8x16x4096.Idx => gates (fun R k => m ((c.tc : Thread nD τ).loc main_arg0) (ix2 R k)) (fun k => m ((c.tc : Thread nD τ).loc main_arg1) (ix1 k))
            (fun k l => m ((c.tc : Thread nD τ).loc main_arg2) (ix2 k l)) (fun l => m ((c.tc : Thread nD τ).loc main_arg3) (ix2 0 l)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (Value.run m ρ) fun r hr c => ⟨(hr c).1.trans (funext fun y => ?_), (hr c).2⟩
  obtain ⟨B, h, t, rfl⟩ : ∃ B h t, y = ix3 B h t := ⟨y 0, y 1, y 2, eq_ix3 y⟩
  exact res_at m c B h t

end Cert.Reference11Ideal.Gates
end
-- ==== Proof.Gates.Pre.lean ====
/- What the gates' precondition says: the gain is a vector of real numbers. -/
module

public import proofs.«01_k».proof.Proof.Fox.Pre
public import proofs.«01_k».proof.Pre_finite_gain
public import Idealize.ShloMosaic.Lib.Pointwise

@[expose] public section

set_option maxRecDepth 16384

noncomputable section

namespace Cert.GatesPre

open Cert.Pre_finite_gain Cert.Pre_finite_gain.Facts
open Idealize.ShloMosaic
open Cert.FoxMath

variable [Cert.Pre_finite_gain.Facts]

/-- The precondition gives what the gates' value lemmas take. -/
theorem gain_real (x : FVec Ideal S32768x2048 .f32) (g : FVec Ideal S2048 .f32) (w : FVec Ideal S2048x128 .bf16) (b : FVec Ideal S1x128 .f32)
    (h : fn x g w b = fun _ => 1#1) (k : Fin 2048) : IsReal (g (ix1 k)) := by
  have h0 := congrFun h ix0
  dsimp only [fn] at h0
  exact Cert.FoxPre.all_real _ _ _ _ h0 (ix1 k)

end Cert.GatesPre
end
-- ==== Proof.lean ====
/- The claims about the layer's calls: each program runs and leaves its arguments, and each kernel's result is its reference's. -/
module

public import proofs.«01_k».proof.Proof.OutProj
public import proofs.«01_k».proof.Proof.Fox.Final
public import proofs.«01_k».proof.Proof.Fox.Pre
public import proofs.«01_k».proof.Proof.Ffn.Final
public import proofs.«01_k».proof.Proof.Ffn.Plain
public import proofs.«01_k».proof.Proof.Proj.Gla
public import proofs.«01_k».proof.Proof.Proj.FoxIn
public import proofs.«01_k».proof.Proof.Proj.FoxKv
public import proofs.«01_k».proof.Proof.Mem.Final
public import proofs.«01_k».proof.Proof.Mem.Wide
public import proofs.«01_k».proof.Proof.Proj.MemKv
public import proofs.«01_k».proof.Proof.Gates.Final
public import proofs.«01_k».proof.Proof.Gates.Ref
public import proofs.«01_k».proof.Proof.Gates.Pre
public import Idealize.ShloMosaic.Lib.Claim
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Pre_finite_gain
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Kernel

/-- The reference of the attention runs and leaves its arguments. -/
theorem refFrame1 : Cert.quiescent_ReferenceIdeal := by
  intro m g _
  exact (θ_run Cert.ReferenceIdeal.defs _ _).mono (fun r h => ⟨fun c => (h c).2,
    Idealize.ShloMosaic.sem_eq_zero_of_no_sems (by decide) r.2⟩) (Cert.ReferenceIdeal.Value.run m g)

/-- The same under the attention's precondition. -/
theorem refFrame1Pre : Cert.quiescent_ReferenceIdeal_pre_finite_scores := by
  intro m g _
  exact (θ_run Cert.ReferenceIdeal.defs _ _).mono (fun r h => ⟨fun c => (h c).2,
    Idealize.ShloMosaic.sem_eq_zero_of_no_sems (by decide) r.2⟩) (Cert.ReferenceIdeal.Value.run m g)

/-- The reference of the feed-forward layer runs and leaves its arguments. -/
theorem refFrame2 : Cert.quiescent_Reference2Ideal := by
  intro m g _
  exact (θ_run Cert.Reference2Ideal.defs _ _).mono (fun r h => ⟨fun c => (h c).2,
    Idealize.ShloMosaic.sem_eq_zero_of_no_sems (by decide) r.2⟩) (Cert.Reference2Ideal.Value.run m g)

/-- The reference of the output projection runs and leaves its arguments. -/
theorem refFrame3 : Cert.quiescent_Reference3Ideal := by
  intro m g _
  exact (θ_run Cert.Reference3Ideal.defs _ _).mono (fun r h => ⟨fun c => (h c).2,
    Idealize.ShloMosaic.sem_eq_zero_of_no_sems (by decide) r.2⟩) (Cert.Reference3Ideal.Value.run m g)

/-- The reference of the feed-forward layer without the last normalization runs and leaves its arguments. -/
theorem refFrame4 : Cert.quiescent_Reference4Ideal := by
  intro m g _
  exact (θ_run Cert.Reference4Ideal.defs _ _).mono (fun r h => ⟨fun c => (h c).2,
    Idealize.ShloMosaic.sem_eq_zero_of_no_sems (by decide) r.2⟩) (Cert.Reference4Ideal.Value.run m g)

/-- The reference of the input projection of the gated linear attention runs and leaves its arguments. -/
theorem refFrame5 : Cert.quiescent_Reference5Ideal := by
  intro m g _
  exact (θ_run Cert.Reference5Ideal.defs _ _).mono (fun r h => ⟨fun c => (h c).2,
    Idealize.ShloMosaic.sem_eq_zero_of_no_sems (by decide) r.2⟩) (Cert.Reference5Ideal.Value.run m g)

/-- The reference of the input projection of the forgetting attention runs and leaves its arguments. -/
theorem refFrame6 : Cert.quiescent_Reference6Ideal := by
  intro m g _
  exact (θ_run Cert.Reference6Ideal.defs _ _).mono (fun r h => ⟨fun c => (h c).2,
    Idealize.ShloMosaic.sem_eq_zero_of_no_sems (by decide) r.2⟩) (Cert.Reference6Ideal.Value.run m g)

/-- The reference of the shared keys and values runs and leaves its arguments. -/
theorem refFrame7 : Cert.quiescent_Reference7Ideal := by
  intro m g _
  exact (θ_run Cert.Reference7Ideal.defs _ _).mono (fun r h => ⟨fun c => (h c).2,
    Idealize.ShloMosaic.sem_eq_zero_of_no_sems (by decide) r.2⟩) (Cert.Reference7Ideal.Value.run m g)

/-- The reference of the attention over the memory tokens runs and leaves its arguments. -/
theorem refFrame8 : Cert.quiescent_Reference8Ideal := by
  intro m g _
  exact (θ_run Cert.Reference8Ideal.defs _ _).mono (fun r h => ⟨fun c => (h c).2,
    Idealize.ShloMosaic.sem_eq_zero_of_no_sems (by decide) r.2⟩) (Cert.Reference8Ideal.Value.run m g)

/-- The reference of the projection to the memory's keys and values runs and leaves its arguments. -/
theorem refFrame9 : Cert.quiescent_Reference9Ideal := by
  intro m g _
  exact (θ_run Cert.Reference9Ideal.defs _ _).mono (fun r h => ⟨fun c => (h c).2,
    Idealize.ShloMosaic.sem_eq_zero_of_no_sems (by decide) r.2⟩) (Cert.Reference9Ideal.Value.run m g)

/-- The reference of the attention over the memory tokens in the first layers runs and leaves its arguments. -/
theorem refFrame10 : Cert.quiescent_Reference10Ideal := by
  intro m g _
  exact (θ_run Cert.Reference10Ideal.defs _ _).mono (fun r h => ⟨fun c => (h c).2,
    Idealize.ShloMosaic.sem_eq_zero_of_no_sems (by decide) r.2⟩) (Cert.Reference10Ideal.Value.run m g)

/-- The reference of the cumulative gates runs and leaves its arguments. -/
theorem refFrame11 : Cert.quiescent_Reference11Ideal := by
  intro m g _
  exact (θ_run Cert.Reference11Ideal.defs _ _).mono (fun r h => ⟨fun c => (h c).2,
    Idealize.ShloMosaic.sem_eq_zero_of_no_sems (by decide) r.2⟩) (Cert.Reference11Ideal.Value.run m g)

/-- The same under the gates' precondition. -/
theorem refFrame11Pre : Cert.quiescent_Reference11Ideal_pre_finite_gain := by
  intro m g _
  exact refFrame11 m g trivial

/-- The output projection: on equal arguments the kernel and its reference end with equal results. -/
theorem outProj : Cert.algebraic_Kernel3Ideal_Reference3Ideal := by
  pair_intro
  · run_from Cert.Kernel3Ideal.Gen.run_main m g
  · run_from Cert.Reference3Ideal.Value.run m' g'
    exact (Cert.Kernel3Ideal.OutProj.final m c).symm

/-- The attention: where the queries, keys and cumulative gates are real, the kernel and its reference end at the same array. -/
theorem attention : Cert.algebraic_KernelIdeal_ReferenceIdeal_pre_finite_scores := by
  pair_intro
  · run_from Cert.KernelIdeal.Gen.run_main m g
  · run_from Cert.ReferenceIdeal.Value.run m' g'
    obtain ⟨e0, e1, e2⟩ := hagree c
    refine (Cert.ReferenceIdeal.Fox.res_eq m' c).trans ?_
    rw [e0, e1, e2]
    exact (Cert.KernelIdeal.Fox.final m c (Cert.FoxPre.real3 _ _ _ (hpre c))).symm

/-- The feed-forward kernel and its reference end at the same array. -/
theorem feedForward : Cert.algebraic_Kernel2Ideal_Reference2Ideal := by
  pair_intro
  · run_from Cert.Kernel2Ideal.Gen.run_main m g
  · run_from Cert.Reference2Ideal.Value.run m' g'
    obtain ⟨e0, e1, e2, e3, e4, e5, e6⟩ := hagree c
    refine (Cert.Reference2Ideal.Ffn.res_eq m' c).trans ?_
    rw [e0, e1, e2, e3, e4, e5, e6]
    exact (Cert.Kernel2Ideal.Ffn.final m c).symm

/-- The feed-forward kernel without the last normalization and its reference end at the same array. -/
theorem feedForwardPlain : Cert.algebraic_Kernel4Ideal_Reference4Ideal := by
  pair_intro
  · run_from Cert.Kernel4Ideal.Gen.run_main m g
  · run_from Cert.Reference4Ideal.Value.run m' g'
    obtain ⟨e0, e1, e2, e3, e4, e5, e6⟩ := hagree c
    refine (Cert.Reference4Ideal.Ffn.res_eq m' c).trans ?_
    rw [e0, e1, e2, e3, e4, e5]
    exact (Cert.Kernel4Ideal.Ffn.final m c).symm

/-- The input projection of the gated linear attention and its reference end at the same array. -/
theorem glaIn : Cert.algebraic_Kernel5Ideal_Reference5Ideal := by
  pair_intro
  · run_from Cert.Kernel5Ideal.Gen.run_main m g
  · run_from Cert.Reference5Ideal.Value.run m' g'
    refine Eq.trans ?_ (Cert.Kernel5Ideal.Proj.final m c).symm
    funext y
    obtain ⟨R, l, rfl⟩ : ∃ R l, y = ix2 R l := ⟨y 0, y 1, eq_ix2 y⟩
    exact Cert.Reference5Ideal.Proj.ref_at _ _ _ R l

/-- The input projection of the forgetting attention and its reference end at the same array. -/
theorem foxIn : Cert.algebraic_Kernel6Ideal_Reference6Ideal := by
  pair_intro
  · run_from Cert.Kernel6Ideal.Gen.run_main m g
  · run_from Cert.Reference6Ideal.Value.run m' g'
    refine Eq.trans ?_ (Cert.Kernel6Ideal.Proj.final m c).symm
    funext y
    obtain ⟨R, l, rfl⟩ : ∃ R l, y = ix2 R l := ⟨y 0, y 1, eq_ix2 y⟩
    exact Cert.Reference6Ideal.Proj.ref_at _ _ _ R l

/-- The projection to the shared keys and values and its reference end at the same array. -/
theorem foxKv : Cert.algebraic_Kernel7Ideal_Reference7Ideal := by
  pair_intro
  · run_from Cert.Kernel7Ideal.Gen.run_main m g
  · run_from Cert.Reference7Ideal.Value.run m' g'
    refine Eq.trans ?_ (Cert.Kernel7Ideal.Proj.final m c).symm
    funext y
    obtain ⟨R, l, rfl⟩ : ∃ R l, y = ix2 R l := ⟨y 0, y 1, eq_ix2 y⟩
    exact Cert.Reference7Ideal.Proj.ref_at _ _ _ R l

/-- The attention over the memory tokens and its reference end at the same array. -/
theorem memory : Cert.algebraic_Kernel8Ideal_Reference8Ideal := by
  pair_intro
  · run_from Cert.Kernel8Ideal.Gen.run_main m g
  · run_from Cert.Reference8Ideal.Value.run m' g'
    obtain ⟨e0, e1⟩ := hagree c
    refine (Cert.Reference8Ideal.Mem.res_eq m' c).trans ?_
    rw [e0, e1]
    exact (Cert.Kernel8Ideal.Mem.final m c).symm

/-- The projection to the memory's keys and values and its reference end at the same array. -/
theorem memKv : Cert.algebraic_Kernel9Ideal_Reference9Ideal := by
  pair_intro
  · run_from Cert.Kernel9Ideal.Gen.run_main m g
  · run_from Cert.Reference9Ideal.Value.run m' g'
    refine Eq.trans ?_ (Cert.Kernel9Ideal.Proj.final m c).symm
    funext y
    obtain ⟨R, l, rfl⟩ : ∃ R l, y = ix2 R l := ⟨y 0, y 1, eq_ix2 y⟩
    exact Cert.Reference9Ideal.Proj.ref_at _ _ _ R l

/-- The attention over the memory tokens in the first layers and its reference end at the same array. -/
theorem memoryWide : Cert.algebraic_Kernel10Ideal_Reference10Ideal := by
  pair_intro
  · run_from Cert.Kernel10Ideal.Gen.run_main m g
  · run_from Cert.Reference10Ideal.Value.run m' g'
    obtain ⟨e0, e1⟩ := hagree c
    refine (Cert.Reference10Ideal.Mem.res_eq m' c).trans ?_
    rw [e0, e1]
    exact (Cert.Kernel10Ideal.Mem.final m c).symm

/-- The cumulative gates: where the gain is real, the kernel and its reference end at the same array. -/
theorem gates : Cert.algebraic_Kernel11Ideal_Reference11Ideal_pre_finite_gain := by
  pair_intro
  · run_from Cert.Kernel11Ideal.Gen.run_main m g
  · refine Idealize.ShloMosaic.θ_run_mono (Cert.Reference11Ideal.Gates.run m' g') ?_
    intro r hr c
    obtain ⟨e0, e1, e2, e3⟩ := hagree c
    refine ⟨(hr c).1.trans ?_, (hr c).2⟩
    refine Eq.trans ?_ (Cert.Kernel11Ideal.Gates.final m c (Cert.GatesPre.gain_real _ _ _ _ (hpre c))).symm
    rw [e0, e1, e2, e3]
    rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_finite_scores.Gen.facts, Cert.Pre_finite_gain.Gen.facts, by
  exact ⟨fun m g _ => Cert.Kernel.Gen.frame m g, fun m g _ => Cert.KernelIdeal.Gen.frame m g, fun m g _ => Cert.KernelIdeal.Gen.frame m g, refFrame1, refFrame1Pre,
    fun m g _ => Cert.Kernel2.Gen.frame m g, fun m g _ => Cert.Kernel2Ideal.Gen.frame m g, refFrame2,
    fun m g _ => Cert.Kernel3.Gen.frame m g, fun m g _ => Cert.Kernel3Ideal.Gen.frame m g, refFrame3,
    fun m g _ => Cert.Kernel4.Gen.frame m g, fun m g _ => Cert.Kernel4Ideal.Gen.frame m g, refFrame4,
    fun m g _ => Cert.Kernel5.Gen.frame m g, fun m g _ => Cert.Kernel5Ideal.Gen.frame m g, refFrame5,
    fun m g _ => Cert.Kernel6.Gen.frame m g, fun m g _ => Cert.Kernel6Ideal.Gen.frame m g, refFrame6,
    fun m g _ => Cert.Kernel7.Gen.frame m g, fun m g _ => Cert.Kernel7Ideal.Gen.frame m g, refFrame7,
    fun m g _ => Cert.Kernel8.Gen.frame m g, fun m g _ => Cert.Kernel8Ideal.Gen.frame m g, refFrame8,
    fun m g _ => Cert.Kernel9.Gen.frame m g, fun m g _ => Cert.Kernel9Ideal.Gen.frame m g, refFrame9,
    fun m g _ => Cert.Kernel10.Gen.frame m g, fun m g _ => Cert.Kernel10Ideal.Gen.frame m g, refFrame10,
    fun m g _ => Cert.Kernel11.Gen.frame m g, fun m g _ => Cert.Kernel11Ideal.Gen.frame m g, fun m g _ => Cert.Kernel11Ideal.Gen.frame m g, refFrame11, refFrame11Pre,
    trivial, attention, trivial, feedForward, trivial, outProj,
    trivial, feedForwardPlain, trivial, glaIn, trivial, foxIn, trivial, foxKv, trivial, memory, trivial, memKv, trivial, memoryWide, trivial, gates⟩⟩

end Cert.Proof

end
